-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_outside [hPre_outside : Cert.Pre_outside.Facts] (m : (ℓ : Loc Cert.KernelIdeal.nD Cert.KernelIdeal.τ Cert.KernelIdeal.sig) → Buf (Elt Ideal) ℓ) : Prop :=
  ∀ c : Dev Cert.KernelIdeal.nD,
    (Cert.Pre_outside.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_outside.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_outside.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_outside.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.1 = (fun _ => 1#1)
    ∧ (Cert.Pre_outside.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2 = (fun _ => 1#1)

def Pre_KernelIdeal_gap [hPre_gap : Cert.Pre_gap.Facts] (m : (ℓ : Loc Cert.KernelIdeal.nD Cert.KernelIdeal.τ Cert.KernelIdeal.sig) → Buf (Elt Ideal) ℓ) : Prop :=
  ∀ c : Dev Cert.KernelIdeal.nD,
    (Cert.Pre_gap.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_gap.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_gap.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_gap.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.1 = (fun _ => 1#1)
    ∧ (Cert.Pre_gap.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2 = (fun _ => 1#1)

def Pre_GridReferenceIdeal (m : (ℓ : Loc Cert.GridReferenceIdeal.nD Cert.GridReferenceIdeal.τ Cert.GridReferenceIdeal.sig) → Buf (Elt Ideal) ℓ) : Prop :=
  True

def Pre_GridReferenceIdeal_outside [hPre_outside : Cert.Pre_outside.Facts] (m : (ℓ : Loc Cert.GridReferenceIdeal.nD Cert.GridReferenceIdeal.τ Cert.GridReferenceIdeal.sig) → Buf (Elt Ideal) ℓ) : Prop :=
  ∀ c : Dev Cert.GridReferenceIdeal.nD,
    (Cert.Pre_outside.fn (F := Ideal) (m ((c.tc : Thread Cert.GridReferenceIdeal.nD Cert.GridReferenceIdeal.τ).loc Cert.GridReferenceIdeal.main_arg0)) (m ((c.tc : Thread Cert.GridReferenceIdeal.nD Cert.GridReferenceIdeal.τ).loc Cert.GridReferenceIdeal.main_arg1)) (m ((c.tc : Thread Cert.GridReferenceIdeal.nD Cert.GridReferenceIdeal.τ).loc Cert.GridReferenceIdeal.main_arg2))).1 = (fun _ => 1#1)
    ∧ (Cert.Pre_outside.fn (F := Ideal) (m ((c.tc : Thread Cert.GridReferenceIdeal.nD Cert.GridReferenceIdeal.τ).loc Cert.GridReferenceIdeal.main_arg0)) (m ((c.tc : Thread Cert.GridReferenceIdeal.nD Cert.GridReferenceIdeal.τ).loc Cert.GridReferenceIdeal.main_arg1)) (m ((c.tc : Thread Cert.GridReferenceIdeal.nD Cert.GridReferenceIdeal.τ).loc Cert.GridReferenceIdeal.main_arg2))).2.1 = (fun _ => 1#1)
    ∧ (Cert.Pre_outside.fn (F := Ideal) (m ((c.tc : Thread Cert.GridReferenceIdeal.nD Cert.GridReferenceIdeal.τ).loc Cert.GridReferenceIdeal.main_arg0)) (m ((c.tc : Thread Cert.GridReferenceIdeal.nD Cert.GridReferenceIdeal.τ).loc Cert.GridReferenceIdeal.main_arg1)) (m ((c.tc : Thread Cert.GridReferenceIdeal.nD Cert.GridReferenceIdeal.τ).loc Cert.GridReferenceIdeal.main_arg2))).2.2.1 = (fun _ => 1#1)
    ∧ (Cert.Pre_outside.fn (F := Ideal) (m ((c.tc : Thread Cert.GridReferenceIdeal.nD Cert.GridReferenceIdeal.τ).loc Cert.GridReferenceIdeal.main_arg0)) (m ((c.tc : Thread Cert.GridReferenceIdeal.nD Cert.GridReferenceIdeal.τ).loc Cert.GridReferenceIdeal.main_arg1)) (m ((c.tc : Thread Cert.GridReferenceIdeal.nD Cert.GridReferenceIdeal.τ).loc Cert.GridReferenceIdeal.main_arg2))).2.2.2.1 = (fun _ => 1#1)
    ∧ (Cert.Pre_outside.fn (F := Ideal) (m ((c.tc : Thread Cert.GridReferenceIdeal.nD Cert.GridReferenceIdeal.τ).loc Cert.GridReferenceIdeal.main_arg0)) (m ((c.tc : Thread Cert.GridReferenceIdeal.nD Cert.GridReferenceIdeal.τ).loc Cert.GridReferenceIdeal.main_arg1)) (m ((c.tc : Thread Cert.GridReferenceIdeal.nD Cert.GridReferenceIdeal.τ).loc Cert.GridReferenceIdeal.main_arg2))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gap [hPre_gap : Cert.Pre_gap.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gap.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_gap.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_gap.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_gap.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.1 = (fun _ => 1#1)
    ∧ (Cert.Pre_gap.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_outside [hKernelIdeal : Cert.KernelIdeal.Facts] [hPre_outside : Cert.Pre_outside.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_outside m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_gap [hKernelIdeal : Cert.KernelIdeal.Facts] [hPre_gap : Cert.Pre_gap.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gap m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_GridReferenceIdeal [hGridReferenceIdeal : Cert.GridReferenceIdeal.Facts] : Prop :=
  ∀ (m : (ℓ : Loc Cert.GridReferenceIdeal.nD Cert.GridReferenceIdeal.τ Cert.GridReferenceIdeal.sig) → Buf (Elt Ideal) ℓ) (g : Dev Cert.GridReferenceIdeal.nD → PrngReg), Pre_GridReferenceIdeal m →
    θ_run (Cert.GridReferenceIdeal.defs (F := Ideal)) (onTc (τ := Cert.GridReferenceIdeal.τ) (Cert.GridReferenceIdeal.main (F := Ideal))) ⟨m, fun _ => 0, g⟩ (fun r => (∀ c : Dev Cert.GridReferenceIdeal.nD,
      r.2.mem ((c.tc : Thread Cert.GridReferenceIdeal.nD Cert.GridReferenceIdeal.τ).loc Cert.GridReferenceIdeal.main_arg0) = m ((c.tc : Thread Cert.GridReferenceIdeal.nD Cert.GridReferenceIdeal.τ).loc Cert.GridReferenceIdeal.main_arg0)
      ∧ r.2.mem ((c.tc : Thread Cert.GridReferenceIdeal.nD Cert.GridReferenceIdeal.τ).loc Cert.GridReferenceIdeal.main_arg1) = m ((c.tc : Thread Cert.GridReferenceIdeal.nD Cert.GridReferenceIdeal.τ).loc Cert.GridReferenceIdeal.main_arg1)
      ∧ r.2.mem ((c.tc : Thread Cert.GridReferenceIdeal.nD Cert.GridReferenceIdeal.τ).loc Cert.GridReferenceIdeal.main_arg2) = m ((c.tc : Thread Cert.GridReferenceIdeal.nD Cert.GridReferenceIdeal.τ).loc Cert.GridReferenceIdeal.main_arg2))
      ∧ r.2.sem = fun _ => 0)

def quiescent_GridReferenceIdeal_pre_outside [hGridReferenceIdeal : Cert.GridReferenceIdeal.Facts] [hPre_outside : Cert.Pre_outside.Facts] : Prop :=
  ∀ (m : (ℓ : Loc Cert.GridReferenceIdeal.nD Cert.GridReferenceIdeal.τ Cert.GridReferenceIdeal.sig) → Buf (Elt Ideal) ℓ) (g : Dev Cert.GridReferenceIdeal.nD → PrngReg), Pre_GridReferenceIdeal_outside m →
    θ_run (Cert.GridReferenceIdeal.defs (F := Ideal)) (onTc (τ := Cert.GridReferenceIdeal.τ) (Cert.GridReferenceIdeal.main (F := Ideal))) ⟨m, fun _ => 0, g⟩ (fun r => (∀ c : Dev Cert.GridReferenceIdeal.nD,
      r.2.mem ((c.tc : Thread Cert.GridReferenceIdeal.nD Cert.GridReferenceIdeal.τ).loc Cert.GridReferenceIdeal.main_arg0) = m ((c.tc : Thread Cert.GridReferenceIdeal.nD Cert.GridReferenceIdeal.τ).loc Cert.GridReferenceIdeal.main_arg0)
      ∧ r.2.mem ((c.tc : Thread Cert.GridReferenceIdeal.nD Cert.GridReferenceIdeal.τ).loc Cert.GridReferenceIdeal.main_arg1) = m ((c.tc : Thread Cert.GridReferenceIdeal.nD Cert.GridReferenceIdeal.τ).loc Cert.GridReferenceIdeal.main_arg1)
      ∧ r.2.mem ((c.tc : Thread Cert.GridReferenceIdeal.nD Cert.GridReferenceIdeal.τ).loc Cert.GridReferenceIdeal.main_arg2) = m ((c.tc : Thread Cert.GridReferenceIdeal.nD Cert.GridReferenceIdeal.τ).loc Cert.GridReferenceIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_gap [hReferenceIdeal : Cert.ReferenceIdeal.Facts] [hPre_gap : Cert.Pre_gap.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gap m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_sigma_n_squared" .f32 0x3FC80000#32 ((8388608 / 5368709 : ℝ) : EReal)

def algebraic_KernelIdeal_GridReferenceIdeal_pre_outside [hKernelIdeal : Cert.KernelIdeal.Facts] [hGridReferenceIdeal : Cert.GridReferenceIdeal.Facts] [hPre_outside : Cert.Pre_outside.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.GridReferenceIdeal.nD Cert.GridReferenceIdeal.τ Cert.GridReferenceIdeal.sig) → Buf (Elt Ideal) ℓ) (g' : Dev Cert.GridReferenceIdeal.nD → PrngReg), Pre_KernelIdeal_outside m →
    (∀ c : Dev Cert.KernelIdeal.nD,
      m' ((c.tc : Thread Cert.GridReferenceIdeal.nD Cert.GridReferenceIdeal.τ).loc Cert.GridReferenceIdeal.main_arg0) = m ((c.tc : Thread Cert.KernelIdeal.nD Cert.KernelIdeal.τ).loc Cert.KernelIdeal.main_arg0)
      ∧ m' ((c.tc : Thread Cert.GridReferenceIdeal.nD Cert.GridReferenceIdeal.τ).loc Cert.GridReferenceIdeal.main_arg1) = m ((c.tc : Thread Cert.KernelIdeal.nD Cert.KernelIdeal.τ).loc Cert.KernelIdeal.main_arg1)
      ∧ m' ((c.tc : Thread Cert.GridReferenceIdeal.nD Cert.GridReferenceIdeal.τ).loc Cert.GridReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.GridReferenceIdeal.defs (F := Ideal)) (onTc (τ := Cert.GridReferenceIdeal.τ) (Cert.GridReferenceIdeal.main (F := Ideal))) ⟨m', fun _ => 0, g'⟩ (fun r => ∀ c : Dev Cert.GridReferenceIdeal.nD,
          r.2.mem ((c.tc : Thread Cert.GridReferenceIdeal.nD Cert.GridReferenceIdeal.τ).loc Cert.GridReferenceIdeal.main_v175) = v0 c
          ∧ r.2.mem ((c.tc : Thread Cert.GridReferenceIdeal.nD Cert.GridReferenceIdeal.τ).loc Cert.GridReferenceIdeal.main_v192) = v1 c
          ∧ r.2.mem ((c.tc : Thread Cert.GridReferenceIdeal.nD Cert.GridReferenceIdeal.τ).loc Cert.GridReferenceIdeal.main_arg0) = m' ((c.tc : Thread Cert.GridReferenceIdeal.nD Cert.GridReferenceIdeal.τ).loc Cert.GridReferenceIdeal.main_arg0)
          ∧ r.2.mem ((c.tc : Thread Cert.GridReferenceIdeal.nD Cert.GridReferenceIdeal.τ).loc Cert.GridReferenceIdeal.main_arg1) = m' ((c.tc : Thread Cert.GridReferenceIdeal.nD Cert.GridReferenceIdeal.τ).loc Cert.GridReferenceIdeal.main_arg1)
          ∧ r.2.mem ((c.tc : Thread Cert.GridReferenceIdeal.nD Cert.GridReferenceIdeal.τ).loc Cert.GridReferenceIdeal.main_arg2) = m' ((c.tc : Thread Cert.GridReferenceIdeal.nD Cert.GridReferenceIdeal.τ).loc Cert.GridReferenceIdeal.main_arg2))

def algebraic_KernelIdeal_ReferenceIdeal_pre_gap [hKernelIdeal : Cert.KernelIdeal.Facts] [hReferenceIdeal : Cert.ReferenceIdeal.Facts] [hPre_gap : Cert.Pre_gap.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gap m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_v153) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hGridReferenceIdeal : Cert.GridReferenceIdeal.Facts) (hReferenceIdeal : Cert.ReferenceIdeal.Facts) (hPre_outside : Cert.Pre_outside.Facts) (hPre_gap : Cert.Pre_gap.Facts),
    quiescent_Kernel (hKernel := hKernel)
    ∧ quiescent_KernelIdeal (hKernelIdeal := hKernelIdeal)
    ∧ quiescent_KernelIdeal_pre_outside (hKernelIdeal := hKernelIdeal) (hPre_outside := hPre_outside)
    ∧ quiescent_KernelIdeal_pre_gap (hKernelIdeal := hKernelIdeal) (hPre_gap := hPre_gap)
    ∧ quiescent_GridReferenceIdeal (hGridReferenceIdeal := hGridReferenceIdeal)
    ∧ quiescent_GridReferenceIdeal_pre_outside (hGridReferenceIdeal := hGridReferenceIdeal) (hPre_outside := hPre_outside)
    ∧ quiescent_ReferenceIdeal (hReferenceIdeal := hReferenceIdeal)
    ∧ quiescent_ReferenceIdeal_pre_gap (hReferenceIdeal := hReferenceIdeal) (hPre_gap := hPre_gap)
    ∧ preserves_Kernel_KernelIdeal
    ∧ algebraic_KernelIdeal_GridReferenceIdeal_pre_outside (hKernelIdeal := hKernelIdeal) (hGridReferenceIdeal := hGridReferenceIdeal) (hPre_outside := hPre_outside)
    ∧ algebraic_KernelIdeal_ReferenceIdeal_pre_gap (hKernelIdeal := hKernelIdeal) (hReferenceIdeal := hReferenceIdeal) (hPre_gap := hPre_gap)
-- ==== Pre_gap.lean ====
abbrev S4096x3 : Shape := ⟨2, ![4096, 3]⟩
abbrev S16384x3 : Shape := ⟨2, ![16384, 3]⟩
abbrev S_ : Shape := ⟨0, ![]⟩
abbrev S4096 : Shape := ⟨1, ![4096]⟩
abbrev S4096x1 : Shape := ⟨2, ![4096, 1]⟩
abbrev S16384 : Shape := ⟨1, ![16384]⟩
abbrev S1x16384 : Shape := ⟨2, ![1, 16384]⟩
abbrev S4096x16384 : Shape := ⟨2, ![4096, 16384]⟩
abbrev S3x16384 : Shape := ⟨2, ![3, 16384]⟩
abbrev S4096x257 : Shape := ⟨2, ![4096, 257]⟩
abbrev S4096x256 : Shape := ⟨2, ![4096, 256]⟩
abbrev S4096x2048 : Shape := ⟨2, ![4096, 2048]⟩

class Facts : Prop where
  reducesTo_S4096x3_S4096_d1 : S4096x3.ReducesTo [1] S4096
  h_S_ : 0 < S_.numel
  bcast_S4096_S4096x1_0 : S4096.BroadcastsInDim S4096x1 (![0] : Fin 1 → Fin S4096x1.rank)
  reducesTo_S16384x3_S16384_d1 : S16384x3.ReducesTo [1] S16384
  bcast_S16384_S1x16384_1 : S16384.BroadcastsInDim S1x16384 (![1] : Fin 1 → Fin S1x16384.rank)
  bcast_S4096x1_S4096x16384_0_1 : S4096x1.BroadcastsInDim S4096x16384 (![0, 1] : Fin 2 → Fin S4096x16384.rank)
  bcast_S1x16384_S4096x16384_0_1 : S1x16384.BroadcastsInDim S4096x16384 (![0, 1] : Fin 2 → Fin S4096x16384.rank)
  transposes_S16384x3_S3x16384_1_0 : S16384x3.Transposes [1, 0] S3x16384
  bcast_S_S4096x16384 : S_.BroadcastsInDim S4096x16384 (![] : Fin 0 → Fin S4096x16384.rank)
  sliceFits_S4096x16384_S4096x257 : S4096x16384.Slices (fun _ => 0) S4096x257
  slices_S4096x257_S4096x256_0_0 : S4096x257.Slices ![0, 0] S4096x256
  reducesTo_S4096x256_S4096_d1 : S4096x256.ReducesTo [1] S4096
  bcast_S_S4096 : S_.BroadcastsInDim S4096 (![] : Fin 0 → Fin S4096.rank)
  slices_S4096x16384_S4096x2048_0_0 : S4096x16384.Slices ![0, 0] S4096x2048
  reducesTo_S4096x2048_S4096_d1 : S4096x2048.ReducesTo [1] S4096
  bcast_S_S4096x3 : S_.BroadcastsInDim S4096x3 (![] : Fin 0 → Fin S4096x3.rank)
  bcast_S_S16384x3 : S_.BroadcastsInDim S16384x3 (![] : Fin 0 → Fin S16384x3.rank)
  slices_S4096x257_S4096x1_0_256 : S4096x257.Slices ![0, 256] S4096x1
  shapeCasts_S4096x1_S4096 : S4096x1.ShapeCasts S4096
  slices_S4096x257_S4096x1_0_255 : S4096x257.Slices ![0, 255] S4096x1
  dot_S4096x3_S3x16384_S4096x16384_1_0_0_1_n_n_wf : DotDims.WF S4096x3 S3x16384 S4096x16384 [1] [0] [0] [1] [] []

variable [Facts]

def dot_S4096x3_S3x16384_S4096x16384_1_0_0_1_n_n : DotDims S4096x3 S3x16384 S4096x16384 where
  lhsContracting := [1]
  rhsContracting := [0]
  lhsNonContracting := [0]
  rhsNonContracting := [1]
  lhsBatch := []
  rhsBatch := []
  wf := dot_S4096x3_S3x16384_S4096x16384_1_0_0_1_n_n_wf
def fn_part2 {F : FTy → Type} [FloatOps F] (main_arg2 : FVec F S16384x3 .f32) (main_v17 : FVec F S4096x257 .f32) (main_v18 : FVec F S4096x257 .f32) (main_v24 : FVec F S4096 .f32) (main_v28 : FVec F S4096 .f32) (main_v31 : IVec S4096x3 1) (main_v34 : IVec S16384x3 1) : IVec S4096x3 1 × IVec S16384x3 1 × IVec S16384x3 1 × IVec S4096 1 × IVec S4096 1 :=
  let main_v35 : FVec F S16384x3 .f32 := Host.absf main_arg2
  let main_cst_10 : FVec F S_ .f32 := constant S_ .f32 0x7F800000#32
  let main_v36 : FVec F S16384x3 .f32 := broadcastInDim S16384x3 ![] bcast_S_S16384x3 main_cst_10
  let main_v37 : IVec S16384x3 1 := cmpf .olt main_v35 main_v36
  let main_v38 : FVec F S4096x1 .f32 := (extractStridedSlice S4096x1 ![0, 256] · slices_S4096x257_S4096x1_0_256) main_v18
  let main_v39 : FVec F S4096 .f32 := shapeCast S4096 main_v38 shapeCasts_S4096x1_S4096
  let main_v40 : IVec S4096 1 := cmpf .oge main_v39 main_v24
  let main_v41 : FVec F S4096x1 .f32 := (extractStridedSlice S4096x1 ![0, 256] · slices_S4096x257_S4096x1_0_256) main_v17
  let main_v42 : FVec F S4096 .f32 := shapeCast S4096 main_v41 shapeCasts_S4096x1_S4096
  let main_v43 : FVec F S4096x1 .f32 := (extractStridedSlice S4096x1 ![0, 255] · slices_S4096x257_S4096x1_0_255) main_v17
  let main_v44 : FVec F S4096 .f32 := shapeCast S4096 main_v43 shapeCasts_S4096x1_S4096
  let main_v45 : FVec F S4096 .f32 := addf main_v44 main_v28
  let main_v46 : IVec S4096 1 := cmpf .oge main_v42 main_v45
  (main_v31, main_v34, main_v37, main_v40, main_v46)

def fn_part1 {F : FTy → Type} [FloatOps F] (main_arg0 : FVec F S4096x3 .f32) (main_arg1 : FVec F S16384x3 .f32) (main_arg2 : FVec F S16384x3 .f32) (main_v15 : FVec F S4096x16384 .f32) (main_v17 : FVec F S4096x257 .f32) : IVec S4096x3 1 × IVec S16384x3 1 × IVec S16384x3 1 × IVec S4096 1 × IVec S4096 1 :=
  let main_v18 : FVec F S4096x257 .f32 := Host.sqrt main_v17
  let main_v19 : FVec F S4096x256 .f32 := (extractStridedSlice S4096x256 ![0, 0] · slices_S4096x257_S4096x256_0_0) main_v18
  let main_cst_3 : FVec F S_ .f32 := constant S_ .f32 0x00000000#32
  let main_v20 : FVec F S4096 .f32 := (fun x v => Host.reduceAdd x v reducesTo_S4096x256_S4096_d1 h_S_) main_v19 main_cst_3
  let main_cst_4 : FVec F S_ .f32 := constant S_ .f32 0x43800000#32
  let main_v21 : FVec F S4096 .f32 := broadcastInDim S4096 ![] bcast_S_S4096 main_cst_4
  let main_v22 : FVec F S4096 .f32 := Host.divf main_v20 main_v21
  let main_cst_5 : FVec F S_ .f32 := constant S_ .f32 0x322BCC77#32
  let main_v23 : FVec F S4096 .f32 := broadcastInDim S4096 ![] bcast_S_S4096 main_cst_5
  let main_v24 : FVec F S4096 .f32 := addf main_v22 main_v23
  let main_v25 : FVec F S4096x2048 .f32 := (extractStridedSlice S4096x2048 ![0, 0] · slices_S4096x16384_S4096x2048_0_0) main_v15
  let main_cst_6 : FVec F S_ .f32 := constant S_ .f32 0xFF800000#32
  let main_v26 : FVec F S4096 .f32 := (fun x v => Host.reduce FloatOps.maximumf x v reducesTo_S4096x2048_S4096_d1 h_S_) main_v25 main_cst_6
  let main_cst_7 : FVec F S_ .f32 := constant S_ .f32 0x43000000#32
  let main_v27 : FVec F S4096 .f32 := broadcastInDim S4096 ![] bcast_S_S4096 main_cst_7
  let main_v28 : FVec F S4096 .f32 := Host.divf main_v26 main_v27
  let main_v29 : FVec F S4096x3 .f32 := Host.absf main_arg0
  let main_cst_8 : FVec F S_ .f32 := constant S_ .f32 0x7F800000#32
  let main_v30 : FVec F S4096x3 .f32 := broadcastInDim S4096x3 ![] bcast_S_S4096x3 main_cst_8
  let main_v31 : IVec S4096x3 1 := cmpf .olt main_v29 main_v30
  let main_v32 : FVec F S16384x3 .f32 := Host.absf main_arg1
  let main_cst_9 : FVec F S_ .f32 := constant S_ .f32 0x7F800000#32
  let main_v33 : FVec F S16384x3 .f32 := broadcastInDim S16384x3 ![] bcast_S_S16384x3 main_cst_9
  let main_v34 : IVec S16384x3 1 := cmpf .olt main_v32 main_v33
  fn_part2 (F := F) main_arg2 main_v17 main_v18 main_v24 main_v28 main_v31 main_v34

def fn {F : FTy → Type} [FloatOps F] (main_arg0 : FVec F S4096x3 .f32) (main_arg1 : FVec F S16384x3 .f32) (main_arg2 : FVec F S16384x3 .f32) : IVec S4096x3 1 × IVec S16384x3 1 × IVec S16384x3 1 × IVec S4096 1 × IVec S4096 1 :=
  let main_v0 : FVec F S4096x3 .f32 := mulf main_arg0 main_arg0
  let main_cst : FVec F S_ .f32 := constant S_ .f32 0x00000000#32
  let main_v1 : FVec F S4096 .f32 := (fun x v => Host.reduceAdd x v reducesTo_S4096x3_S4096_d1 h_S_) main_v0 main_cst
  let main_v2 : FVec F S4096x1 .f32 := broadcastInDim S4096x1 ![0] bcast_S4096_S4096x1_0 main_v1
  let main_v3 : FVec F S16384x3 .f32 := mulf main_arg1 main_arg1
  let main_cst_0 : FVec F S_ .f32 := constant S_ .f32 0x00000000#32
  let main_v4 : FVec F S16384 .f32 := (fun x v => Host.reduceAdd x v reducesTo_S16384x3_S16384_d1 h_S_) main_v3 main_cst_0
  let main_v5 : FVec F S1x16384 .f32 := broadcastInDim S1x16384 ![1] bcast_S16384_S1x16384_1 main_v4
  let main_v6 : FVec F S4096x16384 .f32 := broadcastInDim S4096x16384 ![0, 1] bcast_S4096x1_S4096x16384_0_1 main_v2
  let main_v7 : FVec F S4096x16384 .f32 := broadcastInDim S4096x16384 ![0, 1] bcast_S1x16384_S4096x16384_0_1 main_v5
  let main_v8 : FVec F S4096x16384 .f32 := addf main_v6 main_v7
  let main_v9 : FVec F S3x16384 .f32 := (transpose S3x16384 [1, 0] · transposes_S16384x3_S3x16384_1_0) main_arg1
  let main_v10 : FVec F S4096x16384 .f32 := (fun l r => Host.dotGeneral dot_S4096x3_S3x16384_S4096x16384_1_0_0_1_n_n none l r) main_arg0 main_v9
  let main_cst_1 : FVec F S_ .f32 := constant S_ .f32 0x40000000#32
  let main_v11 : FVec F S4096x16384 .f32 := broadcastInDim S4096x16384 ![] bcast_S_S4096x16384 main_cst_1
  let main_v12 : FVec F S4096x16384 .f32 := mulf main_v11 main_v10
  let main_v13 : FVec F S4096x16384 .f32 := subf main_v8 main_v12
  let main_cst_2 : FVec F S_ .f32 := constant S_ .f32 0x00000000#32
  let main_v14 : FVec F S4096x16384 .f32 := broadcastInDim S4096x16384 ![] bcast_S_S4096x16384 main_cst_2
  let main_v15 : FVec F S4096x16384 .f32 := maximumf main_v13 main_v14
  let main_v16 : FVec F S4096x16384 .f32 := Host.negf main_v15
  let main_values : FVec F S4096x257 .f32 := (fun x => (Host.topK S4096x257 1 (FloatOps.cmpfTotal .gt) x sliceFits_S4096x16384_S4096x257).1) main_v16
  let main_indices : IVec S4096x257 32 := (fun x => (Host.topK S4096x257 1 (FloatOps.cmpfTotal .gt) x sliceFits_S4096x16384_S4096x257).2) main_v16
  let main_v17 : FVec F S4096x257 .f32 := Host.negf main_values
  fn_part1 (F := F) main_arg0 main_arg1 main_arg2 main_v15 main_v17
-- ==== Pre_outside.lean ====
abbrev S4096x3 : Shape := ⟨2, ![4096, 3]⟩
abbrev S16384x3 : Shape := ⟨2, ![16384, 3]⟩
abbrev S_ : Shape := ⟨0, ![]⟩
abbrev S4096 : Shape := ⟨1, ![4096]⟩
abbrev S4096x1 : Shape := ⟨2, ![4096, 1]⟩
abbrev S16384 : Shape := ⟨1, ![16384]⟩
abbrev S1x16384 : Shape := ⟨2, ![1, 16384]⟩
abbrev S4096x16384 : Shape := ⟨2, ![4096, 16384]⟩
abbrev S3x16384 : Shape := ⟨2, ![3, 16384]⟩
abbrev S4096x257 : Shape := ⟨2, ![4096, 257]⟩
abbrev S4096x2048 : Shape := ⟨2, ![4096, 2048]⟩
abbrev S4096x256 : Shape := ⟨2, ![4096, 256]⟩

class Facts : Prop where
  reducesTo_S4096x3_S4096_d1 : S4096x3.ReducesTo [1] S4096
  h_S_ : 0 < S_.numel
  bcast_S4096_S4096x1_0 : S4096.BroadcastsInDim S4096x1 (![0] : Fin 1 → Fin S4096x1.rank)
  reducesTo_S16384x3_S16384_d1 : S16384x3.ReducesTo [1] S16384
  bcast_S16384_S1x16384_1 : S16384.BroadcastsInDim S1x16384 (![1] : Fin 1 → Fin S1x16384.rank)
  bcast_S4096x1_S4096x16384_0_1 : S4096x1.BroadcastsInDim S4096x16384 (![0, 1] : Fin 2 → Fin S4096x16384.rank)
  bcast_S1x16384_S4096x16384_0_1 : S1x16384.BroadcastsInDim S4096x16384 (![0, 1] : Fin 2 → Fin S4096x16384.rank)
  transposes_S16384x3_S3x16384_1_0 : S16384x3.Transposes [1, 0] S3x16384
  bcast_S_S4096x16384 : S_.BroadcastsInDim S4096x16384 (![] : Fin 0 → Fin S4096x16384.rank)
  sliceFits_S4096x16384_S4096x257 : S4096x16384.Slices (fun _ => 0) S4096x257
  slices_S4096x16384_S4096x2048_0_0 : S4096x16384.Slices ![0, 0] S4096x2048
  sliceFits_S4096x2048_S4096x256 : S4096x2048.Slices (fun _ => 0) S4096x256
  slices_S4096x256_S4096x1_0_255 : S4096x256.Slices ![0, 255] S4096x1
  shapeCasts_S4096x1_S4096 : S4096x1.ShapeCasts S4096
  reducesTo_S4096x2048_S4096_d1 : S4096x2048.ReducesTo [1] S4096
  bcast_S_S4096 : S_.BroadcastsInDim S4096 (![] : Fin 0 → Fin S4096.rank)
  sliceFits_S4096x16384_S4096x256 : S4096x16384.Slices (fun _ => 0) S4096x256
  reducesTo_S4096x16384_S4096_d1 : S4096x16384.ReducesTo [1] S4096
  bcast_S_S4096x3 : S_.BroadcastsInDim S4096x3 (![] : Fin 0 → Fin S4096x3.rank)
  bcast_S_S16384x3 : S_.BroadcastsInDim S16384x3 (![] : Fin 0 → Fin S16384x3.rank)
  slices_S4096x257_S4096x1_0_256 : S4096x257.Slices ![0, 256] S4096x1
  dot_S4096x3_S3x16384_S4096x16384_1_0_0_1_n_n_wf : DotDims.WF S4096x3 S3x16384 S4096x16384 [1] [0] [0] [1] [] []

variable [Facts]

def dot_S4096x3_S3x16384_S4096x16384_1_0_0_1_n_n : DotDims S4096x3 S3x16384 S4096x16384 where
  lhsContracting := [1]
  rhsContracting := [0]
  lhsNonContracting := [0]
  rhsNonContracting := [1]
  lhsBatch := []
  rhsBatch := []
  wf := dot_S4096x3_S3x16384_S4096x16384_1_0_0_1_n_n_wf
def fn_where {F : FTy → Type} [FloatOps F] (arg0 : IVec S4096 1) (arg1 : FVec F S4096 .f32) (arg2 : FVec F S_ .f32) : FVec F S4096 .f32 :=
  let v0 : FVec F S_ .f32 := id arg2
  let v1 : FVec F S4096 .f32 := broadcastInDim S4096 ![] bcast_S_S4096 v0
  let v2 : FVec F S4096 .f32 := select arg0 arg1 v1
  v2

def fn_part4 {F : FTy → Type} [FloatOps F] (main_v18 : FVec F S4096x257 .f32) (main_v62 : FVec F S4096 .f32) (main_v65 : IVec S4096x3 1) (main_v68 : IVec S16384x3 1) (main_v69 : FVec F S16384x3 .f32) (main_cst_22 : FVec F S_ .f32) : IVec S4096x3 1 × IVec S16384x3 1 × IVec S16384x3 1 × IVec S4096 1 × IVec S4096 1 :=
  let main_v70 : FVec F S16384x3 .f32 := broadcastInDim S16384x3 ![] bcast_S_S16384x3 main_cst_22
  let main_v71 : IVec S16384x3 1 := cmpf .olt main_v69 main_v70
  let main_cst_23 : FVec F S_ .f32 := constant S_ .f32 0x00000000#32
  let main_v72 : FVec F S4096 .f32 := broadcastInDim S4096 ![] bcast_S_S4096 main_cst_23
  let main_v73 : IVec S4096 1 := cmpf .ogt main_v62 main_v72
  let main_v74 : FVec F S4096x1 .f32 := (extractStridedSlice S4096x1 ![0, 256] · slices_S4096x257_S4096x1_0_256) main_v18
  let main_v75 : FVec F S4096 .f32 := shapeCast S4096 main_v74 shapeCasts_S4096x1_S4096
  let main_v76 : IVec S4096 1 := cmpf .oge main_v75 main_v62
  (main_v65, main_v68, main_v71, main_v73, main_v76)

def fn_part3 {F : FTy → Type} [FloatOps F] (main_arg0 : FVec F S4096x3 .f32) (main_arg1 : FVec F S16384x3 .f32) (main_arg2 : FVec F S16384x3 .f32) (main_v18 : FVec F S4096x257 .f32) (main_v50 : FVec F S4096x1 .f32) (main_v51 : FVec F S4096x16384 .f32) (main_v52 : FVec F S4096x16384 .f32) : IVec S4096x3 1 × IVec S16384x3 1 × IVec S16384x3 1 × IVec S4096 1 × IVec S4096 1 :=
  let main_v53 : FVec F S4096x16384 .f32 := subf main_v52 main_v51
  let main_cst_16 : FVec F S_ .f32 := constant S_ .f32 0x00000000#32
  let main_v54 : FVec F S4096x16384 .f32 := broadcastInDim S4096x16384 ![] bcast_S_S4096x16384 main_cst_16
  let main_v55 : FVec F S4096x16384 .f32 := maximumf main_v53 main_v54
  let main_cst_17 : FVec F S_ .f32 := constant S_ .f32 0x00000000#32
  let main_v56 : FVec F S4096 .f32 := (fun x v => Host.reduceAdd x v reducesTo_S4096x16384_S4096_d1 h_S_) main_v55 main_cst_17
  let main_v57 : FVec F S4096 .f32 := shapeCast S4096 main_v50 shapeCasts_S4096x1_S4096
  let main_cst_18 : FVec F S_ .f32 := constant S_ .f32 0x43800000#32
  let main_v58 : FVec F S4096 .f32 := broadcastInDim S4096 ![] bcast_S_S4096 main_cst_18
  let main_v59 : FVec F S4096 .f32 := Host.divf main_v56 main_v58
  let main_v60 : FVec F S4096 .f32 := subf main_v57 main_v59
  let main_cst_19 : FVec F S_ .f32 := constant S_ .f32 0x322BCC77#32
  let main_v61 : FVec F S4096 .f32 := broadcastInDim S4096 ![] bcast_S_S4096 main_cst_19
  let main_v62 : FVec F S4096 .f32 := addf main_v60 main_v61
  let main_v63 : FVec F S4096x3 .f32 := Host.absf main_arg0
  let main_cst_20 : FVec F S_ .f32 := constant S_ .f32 0x7F800000#32
  let main_v64 : FVec F S4096x3 .f32 := broadcastInDim S4096x3 ![] bcast_S_S4096x3 main_cst_20
  let main_v65 : IVec S4096x3 1 := cmpf .olt main_v63 main_v64
  let main_v66 : FVec F S16384x3 .f32 := Host.absf main_arg1
  let main_cst_21 : FVec F S_ .f32 := constant S_ .f32 0x7F800000#32
  let main_v67 : FVec F S16384x3 .f32 := broadcastInDim S16384x3 ![] bcast_S_S16384x3 main_cst_21
  let main_v68 : IVec S16384x3 1 := cmpf .olt main_v66 main_v67
  let main_v69 : FVec F S16384x3 .f32 := Host.absf main_arg2
  let main_cst_22 : FVec F S_ .f32 := constant S_ .f32 0x7F800000#32
  fn_part4 (F := F) main_v18 main_v62 main_v65 main_v68 main_v69 main_cst_22

def fn_part2 {F : FTy → Type} [FloatOps F] (main_arg0 : FVec F S4096x3 .f32) (main_arg1 : FVec F S16384x3 .f32) (main_arg2 : FVec F S16384x3 .f32) (main_v15 : FVec F S4096x16384 .f32) (main_v18 : FVec F S4096x257 .f32) (main_v34 : FVec F S4096 .f32) : IVec S4096x3 1 × IVec S16384x3 1 × IVec S16384x3 1 × IVec S4096 1 × IVec S4096 1 :=
  let main_v35 : FVec F S4096x16384 .f32 := Host.negf main_v15
  let main_values_10 : FVec F S4096x256 .f32 := (fun x => (Host.topK S4096x256 1 (FloatOps.cmpfTotal .gt) x sliceFits_S4096x16384_S4096x256).1) main_v35
  let main_indices_11 : IVec S4096x256 32 := (fun x => (Host.topK S4096x256 1 (FloatOps.cmpfTotal .gt) x sliceFits_S4096x16384_S4096x256).2) main_v35
  let main_v36 : FVec F S4096x1 .f32 := (extractStridedSlice S4096x1 ![0, 255] · slices_S4096x256_S4096x1_0_255) main_values_10
  let main_v37 : FVec F S4096 .f32 := shapeCast S4096 main_v36 shapeCasts_S4096x1_S4096
  let main_v38 : FVec F S4096 .f32 := Host.negf main_v37
  let main_cst_12 : FVec F S_ .f32 := constant S_ .f32 0x43000000#32
  let main_v39 : FVec F S4096 .f32 := broadcastInDim S4096 ![] bcast_S_S4096 main_cst_12
  let main_v40 : FVec F S4096 .f32 := Host.divf main_v34 main_v39
  let main_cst_13 : FVec F S_ .f32 := constant S_ .f32 0x00000000#32
  let main_v41 : FVec F S4096 .f32 := broadcastInDim S4096 ![] bcast_S_S4096 main_cst_13
  let main_v42 : IVec S4096 1 := cmpf .ogt main_v40 main_v41
  let main_v43 : FVec F S4096 .f32 := Host.divf main_v38 main_v40
  let main_v44 : FVec F S4096 .f32 := Host.ceil main_v43
  let main_cst_14 : FVec F S_ .f32 := constant S_ .f32 0x3F800000#32
  let main_v45 : FVec F S4096 .f32 := broadcastInDim S4096 ![] bcast_S_S4096 main_cst_14
  let main_v46 : FVec F S4096 .f32 := maximumf main_v44 main_v45
  let main_v47 : FVec F S4096 .f32 := mulf main_v46 main_v40
  let main_cst_15 : FVec F S_ .f32 := constant S_ .f32 0x00000000#32
  let main_v48 : FVec F S4096 .f32 := fn_where (F := F) main_v42 main_v47 main_cst_15
  let main_v49 : FVec F S4096 .f32 := Host.sqrt main_v48
  let main_v50 : FVec F S4096x1 .f32 := broadcastInDim S4096x1 ![0] bcast_S4096_S4096x1_0 main_v49
  let main_v51 : FVec F S4096x16384 .f32 := Host.sqrt main_v15
  let main_v52 : FVec F S4096x16384 .f32 := broadcastInDim S4096x16384 ![0, 1] bcast_S4096x1_S4096x16384_0_1 main_v50
  fn_part3 (F := F) main_arg0 main_arg1 main_arg2 main_v18 main_v50 main_v51 main_v52

def fn_part1 {F : FTy → Type} [FloatOps F] (main_arg0 : FVec F S4096x3 .f32) (main_arg1 : FVec F S16384x3 .f32) (main_arg2 : FVec F S16384x3 .f32) (main_v15 : FVec F S4096x16384 .f32) (main_v17 : FVec F S4096x257 .f32) : IVec S4096x3 1 × IVec S16384x3 1 × IVec S16384x3 1 × IVec S4096 1 × IVec S4096 1 :=
  let main_v18 : FVec F S4096x257 .f32 := Host.sqrt main_v17
  let main_v19 : FVec F S4096x2048 .f32 := (extractStridedSlice S4096x2048 ![0, 0] · slices_S4096x16384_S4096x2048_0_0) main_v15
  let main_v20 : FVec F S4096x2048 .f32 := Host.negf main_v19
  let main_values_3 : FVec F S4096x256 .f32 := (fun x => (Host.topK S4096x256 1 (FloatOps.cmpfTotal .gt) x sliceFits_S4096x2048_S4096x256).1) main_v20
  let main_indices_4 : IVec S4096x256 32 := (fun x => (Host.topK S4096x256 1 (FloatOps.cmpfTotal .gt) x sliceFits_S4096x2048_S4096x256).2) main_v20
  let main_v21 : FVec F S4096x1 .f32 := (extractStridedSlice S4096x1 ![0, 255] · slices_S4096x256_S4096x1_0_255) main_values_3
  let main_v22 : FVec F S4096 .f32 := shapeCast S4096 main_v21 shapeCasts_S4096x1_S4096
  let main_v23 : FVec F S4096 .f32 := Host.negf main_v22
  let main_cst_5 : FVec F S_ .f32 := constant S_ .f32 0xFF800000#32
  let main_v24 : FVec F S4096 .f32 := (fun x v => Host.reduce FloatOps.maximumf x v reducesTo_S4096x2048_S4096_d1 h_S_) main_v19 main_cst_5
  let main_cst_6 : FVec F S_ .f32 := constant S_ .f32 0x44000000#32
  let main_v25 : FVec F S4096 .f32 := broadcastInDim S4096 ![] bcast_S_S4096 main_cst_6
  let main_v26 : FVec F S4096 .f32 := Host.divf main_v24 main_v25
  let main_cst_7 : FVec F S_ .f32 := constant S_ .f32 0x00000000#32
  let main_v27 : FVec F S4096 .f32 := broadcastInDim S4096 ![] bcast_S_S4096 main_cst_7
  let main_v28 : IVec S4096 1 := cmpf .ogt main_v26 main_v27
  let main_v29 : FVec F S4096 .f32 := Host.divf main_v23 main_v26
  let main_v30 : FVec F S4096 .f32 := Host.ceil main_v29
  let main_cst_8 : FVec F S_ .f32 := constant S_ .f32 0x3F800000#32
  let main_v31 : FVec F S4096 .f32 := broadcastInDim S4096 ![] bcast_S_S4096 main_cst_8
  let main_v32 : FVec F S4096 .f32 := maximumf main_v30 main_v31
  let main_v33 : FVec F S4096 .f32 := mulf main_v32 main_v26
  let main_cst_9 : FVec F S_ .f32 := constant S_ .f32 0x00000000#32
  let main_v34 : FVec F S4096 .f32 := fn_where (F := F) main_v28 main_v33 main_cst_9
  fn_part2 (F := F) main_arg0 main_arg1 main_arg2 main_v15 main_v18 main_v34

def fn {F : FTy → Type} [FloatOps F] (main_arg0 : FVec F S4096x3 .f32) (main_arg1 : FVec F S16384x3 .f32) (main_arg2 : FVec F S16384x3 .f32) : IVec S4096x3 1 × IVec S16384x3 1 × IVec S16384x3 1 × IVec S4096 1 × IVec S4096 1 :=
  let main_v0 : FVec F S4096x3 .f32 := mulf main_arg0 main_arg0
  let main_cst : FVec F S_ .f32 := constant S_ .f32 0x00000000#32
  let main_v1 : FVec F S4096 .f32 := (fun x v => Host.reduceAdd x v reducesTo_S4096x3_S4096_d1 h_S_) main_v0 main_cst
  let main_v2 : FVec F S4096x1 .f32 := broadcastInDim S4096x1 ![0] bcast_S4096_S4096x1_0 main_v1
  let main_v3 : FVec F S16384x3 .f32 := mulf main_arg1 main_arg1
  let main_cst_0 : FVec F S_ .f32 := constant S_ .f32 0x00000000#32
  let main_v4 : FVec F S16384 .f32 := (fun x v => Host.reduceAdd x v reducesTo_S16384x3_S16384_d1 h_S_) main_v3 main_cst_0
  let main_v5 : FVec F S1x16384 .f32 := broadcastInDim S1x16384 ![1] bcast_S16384_S1x16384_1 main_v4
  let main_v6 : FVec F S4096x16384 .f32 := broadcastInDim S4096x16384 ![0, 1] bcast_S4096x1_S4096x16384_0_1 main_v2
  let main_v7 : FVec F S4096x16384 .f32 := broadcastInDim S4096x16384 ![0, 1] bcast_S1x16384_S4096x16384_0_1 main_v5
  let main_v8 : FVec F S4096x16384 .f32 := addf main_v6 main_v7
  let main_v9 : FVec F S3x16384 .f32 := (transpose S3x16384 [1, 0] · transposes_S16384x3_S3x16384_1_0) main_arg1
  let main_v10 : FVec F S4096x16384 .f32 := (fun l r => Host.dotGeneral dot_S4096x3_S3x16384_S4096x16384_1_0_0_1_n_n none l r) main_arg0 main_v9
  let main_cst_1 : FVec F S_ .f32 := constant S_ .f32 0x40000000#32
  let main_v11 : FVec F S4096x16384 .f32 := broadcastInDim S4096x16384 ![] bcast_S_S4096x16384 main_cst_1
  let main_v12 : FVec F S4096x16384 .f32 := mulf main_v11 main_v10
  let main_v13 : FVec F S4096x16384 .f32 := subf main_v8 main_v12
  let main_cst_2 : FVec F S_ .f32 := constant S_ .f32 0x00000000#32
  let main_v14 : FVec F S4096x16384 .f32 := broadcastInDim S4096x16384 ![] bcast_S_S4096x16384 main_cst_2
  let main_v15 : FVec F S4096x16384 .f32 := maximumf main_v13 main_v14
  let main_v16 : FVec F S4096x16384 .f32 := Host.negf main_v15
  let main_values : FVec F S4096x257 .f32 := (fun x => (Host.topK S4096x257 1 (FloatOps.cmpfTotal .gt) x sliceFits_S4096x16384_S4096x257).1) main_v16
  let main_indices : IVec S4096x257 32 := (fun x => (Host.topK S4096x257 1 (FloatOps.cmpfTotal .gt) x sliceFits_S4096x16384_S4096x257).2) main_v16
  let main_v17 : FVec F S4096x257 .f32 := Host.negf main_values
  fn_part1 (F := F) main_arg0 main_arg1 main_arg2 main_v15 main_v17
-- ==== Kernel.lean ====
abbrev S4096x3 : Shape := ⟨2, ![4096, 3]⟩
abbrev S16384x3 : Shape := ⟨2, ![16384, 3]⟩
abbrev S3x16384 : Shape := ⟨2, ![3, 16384]⟩
abbrev S4096x1 : Shape := ⟨2, ![4096, 1]⟩
abbrev S128x3 : Shape := ⟨2, ![128, 3]⟩
abbrev S128x1 : Shape := ⟨2, ![128, 1]⟩
abbrev S16384 : Shape := ⟨1, ![16384]⟩
abbrev S1x16384 : Shape := ⟨2, ![1, 16384]⟩
abbrev S128x16384 : Shape := ⟨2, ![128, 16384]⟩
abbrev S128x2048 : Shape := ⟨2, ![128, 2048]⟩
abbrev S128 : Shape := ⟨1, ![128]⟩
abbrev S1x2048 : Shape := ⟨2, ![1, 2048]⟩
abbrev S4096 : Shape := ⟨1, ![4096]⟩

abbrev nBuf : Space → Nat
  | .hbm => 8
  | .vmem => 8
  | .smem => 0
  | _ => 0

abbrev bufTy : (tb : Table) → Fin (tcTables nBuf tb) → BufTy
  | .hbm, ⟨0, _⟩ => ⟨S4096x3, .f32⟩
  | .hbm, ⟨1, _⟩ => ⟨S16384x3, .f32⟩
  | .hbm, ⟨2, _⟩ => ⟨S16384x3, .f32⟩
  | .hbm, ⟨3, _⟩ => ⟨S3x16384, .f32⟩
  | .hbm, ⟨4, _⟩ => ⟨S3x16384, .f32⟩
  | .hbm, ⟨5, _⟩ => ⟨S4096x1, .f32⟩
  | .hbm, ⟨6, _⟩ => ⟨S4096x3, .f32⟩
  | .hbm, ⟨7, _⟩ => ⟨S4096, .f32⟩
  | .local _ .vmem, ⟨0, _⟩ => ⟨S128x3, .f32⟩
  | .local _ .vmem, ⟨1, _⟩ => ⟨S128x3, .f32⟩
  | .local _ .vmem, ⟨2, _⟩ => ⟨S3x16384, .f32⟩
  | .local _ .vmem, ⟨3, _⟩ => ⟨S3x16384, .f32⟩
  | .local _ .vmem, ⟨4, _⟩ => ⟨S128x1, .f32⟩
  | .local _ .vmem, ⟨5, _⟩ => ⟨S128x1, .f32⟩
  | .local _ .vmem, ⟨6, _⟩ => ⟨S128x3, .f32⟩
  | .local _ .vmem, ⟨7, _⟩ => ⟨S128x3, .f32⟩
  | _, _ => ⟨S4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c9_i32 : BitVec 32 := 9#32
  let v57 : BitVec 32 := Scalar.addi c0_i32 c9_i32
  let c1_i32 : BitVec 32 := 1#32
  ⟨c0_i32, v57, c1_i32⟩
@[reducible] def k0_t2_loop : Scf.Loop 32 :=
  let c0_i32_14 : BitVec 32 := 0#32
  let c7_i32 : BitVec 32 := 7#32
  let v60 : BitVec 32 := Scalar.addi c0_i32_14 c7_i32
  let c1_i32_15 : BitVec 32 := 1#32
  ⟨c0_i32_14, v60, c1_i32_15⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "inv_sigma_n_squared" => some ((8388608 / 5368709 : ℝ) : EReal)
  | _ => none
-- ==== GridReferenceIdeal.lean ====
abbrev S4096x3 : Shape := ⟨2, ![4096, 3]⟩
abbrev S16384x3 : Shape := ⟨2, ![16384, 3]⟩
abbrev S_ : Shape := ⟨0, ![]⟩
abbrev S16384 : Shape := ⟨1, ![16384]⟩
abbrev S16384x1 : Shape := ⟨2, ![16384, 1]⟩
abbrev S4096 : Shape := ⟨1, ![4096]⟩
abbrev S4096x1 : Shape := ⟨2, ![4096, 1]⟩
abbrev S1x16384 : Shape := ⟨2, ![1, 16384]⟩
abbrev S4096x16384 : Shape := ⟨2, ![4096, 16384]⟩
abbrev S3x16384 : Shape := ⟨2, ![3, 16384]⟩
abbrev S4096x256 : Shape := ⟨2, ![4096, 256]⟩
abbrev S4096x2048 : Shape := ⟨2, ![4096, 2048]⟩
abbrev S4096x256x1 : Shape := ⟨3, ![4096, 256, 1]⟩
abbrev S4096x256x3 : Shape := ⟨3, ![4096, 256, 3]⟩
abbrev S4096x1x3 : Shape := ⟨3, ![4096, 1, 3]⟩

abbrev nBuf : Space → Nat
  | .hbm => 259
  | .vmem => 0
  | .smem => 0
  | _ => 0

abbrev hbmTy0_0 (i : Nat) : BufTy := match i % 128 with
  | 0 => ⟨S4096x3, .f32⟩
  | 1 => ⟨S16384x3, .f32⟩
  | 2 => ⟨S16384x3, .f32⟩
  | 3 => ⟨S16384x3, .f32⟩
  | 4 => ⟨S_, .f32⟩
  | 5 => ⟨S16384, .f32⟩
  | 6 => ⟨S16384x1, .f32⟩
  | 7 => ⟨S16384x1, .f32⟩
  | 8 => ⟨S_, .f32⟩
  | 9 => ⟨S16384x1, .f32⟩
  | 10 => ⟨S16384x1, .f32⟩
  | 11 => ⟨S16384x3, .f32⟩
  | 12 => ⟨S16384x3, .f32⟩
  | 13 => ⟨S4096x3, .f32⟩
  | 14 => ⟨S_, .f32⟩
  | 15 => ⟨S4096, .f32⟩
  | 16 => ⟨S4096x1, .f32⟩
  | 17 => ⟨S16384x3, .f32⟩
  | 18 => ⟨S_, .f32⟩
  | 19 => ⟨S16384, .f32⟩
  | 20 => ⟨S1x16384, .f32⟩
  | 21 => ⟨S4096x16384, .f32⟩
  | 22 => ⟨S4096x16384, .f32⟩
  | 23 => ⟨S4096x16384, .f32⟩
  | 24 => ⟨S3x16384, .f32⟩
  | 25 => ⟨S4096x16384, .f32⟩
  | 26 => ⟨S_, .f32⟩
  | 27 => ⟨S4096x16384, .f32⟩
  | 28 => ⟨S4096x16384, .f32⟩
  | 29 => ⟨S4096x16384, .f32⟩
  | 30 => ⟨S_, .f32⟩
  | 31 => ⟨S4096x16384, .f32⟩
  | 32 => ⟨S4096x16384, .f32⟩
  | 33 => ⟨S4096x16384, .f32⟩
  | 34 => ⟨S4096x256, .f32⟩
  | 35 => ⟨S4096x256, .i32⟩
  | 36 => ⟨S4096x256, .f32⟩
  | 37 => ⟨S_, .f32⟩
  | 38 => ⟨S4096x256, .f32⟩
  | 39 => ⟨S4096x256, .f32⟩
  | 40 => ⟨S4096x256, .f32⟩
  | 41 => ⟨S4096x2048, .f32⟩
  | 42 => ⟨S4096x2048, .f32⟩
  | 43 => ⟨S4096x256, .f32⟩
  | 44 => ⟨S4096x256, .i32⟩
  | 45 => ⟨S4096x1, .f32⟩
  | 46 => ⟨S4096, .f32⟩
  | 47 => ⟨S4096, .f32⟩
  | 48 => ⟨S_, .f32⟩
  | 49 => ⟨S4096, .f32⟩
  | 50 => ⟨S_, .f32⟩
  | 51 => ⟨S4096, .f32⟩
  | 52 => ⟨S4096, .f32⟩
  | 53 => ⟨S_, .f32⟩
  | 54 => ⟨S4096, .f32⟩
  | 55 => ⟨S4096, .i1⟩
  | 56 => ⟨S4096, .f32⟩
  | 57 => ⟨S4096, .f32⟩
  | 58 => ⟨S_, .f32⟩
  | 59 => ⟨S4096, .f32⟩
  | 60 => ⟨S4096, .f32⟩
  | 61 => ⟨S4096, .f32⟩
  | 62 => ⟨S_, .f32⟩
  | 63 => ⟨S_, .f32⟩
  | 64 => ⟨S4096, .f32⟩
  | 65 => ⟨S4096, .f32⟩
  | 66 => ⟨S4096x16384, .f32⟩
  | 67 => ⟨S4096x256, .f32⟩
  | 68 => ⟨S4096x256, .i32⟩
  | 69 => ⟨S4096x1, .f32⟩
  | 70 => ⟨S4096, .f32⟩
  | 71 => ⟨S4096, .f32⟩
  | 72 => ⟨S_, .f32⟩
  | 73 => ⟨S4096, .f32⟩
  | 74 => ⟨S4096, .f32⟩
  | 75 => ⟨S_, .f32⟩
  | 76 => ⟨S4096, .f32⟩
  | 77 => ⟨S4096, .i1⟩
  | 78 => ⟨S4096, .f32⟩
  | 79 => ⟨S4096, .f32⟩
  | 80 => ⟨S_, .f32⟩
  | 81 => ⟨S4096, .f32⟩
  | 82 => ⟨S4096, .f32⟩
  | 83 => ⟨S4096, .f32⟩
  | 84 => ⟨S_, .f32⟩
  | 85 => ⟨S_, .f32⟩
  | 86 => ⟨S4096, .f32⟩
  | 87 => ⟨S4096, .f32⟩
  | 88 => ⟨S4096, .f32⟩
  | 89 => ⟨S4096x1, .f32⟩
  | 90 => ⟨S4096x16384, .f32⟩
  | 91 => ⟨S4096x16384, .f32⟩
  | 92 => ⟨S4096x16384, .f32⟩
  | 93 => ⟨S_, .f32⟩
  | 94 => ⟨S4096x16384, .f32⟩
  | 95 => ⟨S4096x16384, .f32⟩
  | 96 => ⟨S_, .f32⟩
  | 97 => ⟨S4096, .f32⟩
  | 98 => ⟨S4096, .f32⟩
  | 99 => ⟨S_, .f32⟩
  | 100 => ⟨S4096, .f32⟩
  | 101 => ⟨S4096, .f32⟩
  | 102 => ⟨S4096, .f32⟩
  | 103 => ⟨S_, .f32⟩
  | 104 => ⟨S4096, .f32⟩
  | 105 => ⟨S4096, .f32⟩
  | 106 => ⟨S_, .i32⟩
  | 107 => ⟨S4096x256, .i32⟩
  | 108 => ⟨S4096x256, .i1⟩
  | 109 => ⟨S_, .i32⟩
  | 110 => ⟨S4096x256, .i32⟩
  | 111 => ⟨S4096x256, .i32⟩
  | 112 => ⟨S4096x256, .i32⟩
  | 113 => ⟨S4096x256x1, .i32⟩
  | 114 => ⟨S4096x256x3, .f32⟩
  | 115 => ⟨S_, .i32⟩
  | 116 => ⟨S4096x256, .i32⟩
  | 117 => ⟨S4096x256, .i1⟩
  | 118 => ⟨S_, .i32⟩
  | 119 => ⟨S4096x256, .i32⟩
  | 120 => ⟨S4096x256, .i32⟩
  | 121 => ⟨S4096x256, .i32⟩
  | 122 => ⟨S4096x256x1, .i32⟩
  | 123 => ⟨S4096x256x3, .f32⟩
  | 124 => ⟨S4096x1x3, .f32⟩
  | 125 => ⟨S4096x256x3, .f32⟩
  | 126 => ⟨S4096x256x3, .f32⟩
  | 127 => ⟨S4096x256x3, .f32⟩
  | _ => ⟨S4096x3, .f32⟩

abbrev hbmTy0_1 (i : Nat) : BufTy := match i % 128 with
  | 0 => ⟨S_, .f32⟩
  | 1 => ⟨S4096x256, .f32⟩
  | 2 => ⟨S4096x256x3, .f32⟩
  | 3 => ⟨S_, .f32⟩
  | 4 => ⟨S4096x256, .f32⟩
  | 5 => ⟨S4096, .f32⟩
  | 6 => ⟨S4096x1, .f32⟩
  | 7 => ⟨S4096x256, .f32⟩
  | 8 => ⟨S4096x256, .f32⟩
  | 9 => ⟨S_, .f32⟩
  | 10 => ⟨S4096x256, .f32⟩
  | 11 => ⟨S4096x256, .f32⟩
  | 12 => ⟨S_, .f32⟩
  | 13 => ⟨S4096x256, .f32⟩
  | 14 => ⟨S4096x256, .f32⟩
  | 15 => ⟨S4096x256, .f32⟩
  | 16 => ⟨S4096x256, .f32⟩
  | 17 => ⟨S4096x256, .f32⟩
  | 18 => ⟨S4096x256, .f32⟩
  | 19 => ⟨S_, .f32⟩
  | 20 => ⟨S4096x256, .f32⟩
  | 21 => ⟨S4096x256, .f32⟩
  | 22 => ⟨S4096x256, .f32⟩
  | 23 => ⟨S4096x256, .f32⟩
  | 24 => ⟨S4096x1, .f32⟩
  | 25 => ⟨S_, .f32⟩
  | 26 => ⟨S4096x1, .f32⟩
  | 27 => ⟨S4096x1, .f32⟩
  | 28 => ⟨S_, .f32⟩
  | 29 => ⟨S4096, .f32⟩
  | 30 => ⟨S_, .f32⟩
  | 31 => ⟨S4096x3, .f32⟩
  | 32 => ⟨S_, .f32⟩
  | 33 => ⟨S4096x256, .f32⟩
  | 34 => ⟨S4096x256, .f32⟩
  | 35 => ⟨S4096x256, .f32⟩
  | 36 => ⟨S4096x256x1, .f32⟩
  | 37 => ⟨S_, .f32⟩
  | 38 => ⟨S4096x256x1, .f32⟩
  | 39 => ⟨S4096x256x1, .f32⟩
  | 40 => ⟨S4096x256x3, .f32⟩
  | 41 => ⟨S4096x256x3, .f32⟩
  | 42 => ⟨S_, .f32⟩
  | 43 => ⟨S4096, .f32⟩
  | 44 => ⟨S_, .f32⟩
  | 45 => ⟨S4096, .f32⟩
  | 46 => ⟨S4096, .f32⟩
  | 47 => ⟨S4096x256, .f32⟩
  | 48 => ⟨S_, .f32⟩
  | 49 => ⟨S4096, .f32⟩
  | 50 => ⟨S4096, .f32⟩
  | 51 => ⟨S4096x256x1, .f32⟩
  | 52 => ⟨S4096x256x3, .f32⟩
  | 53 => ⟨S4096x256x3, .f32⟩
  | 54 => ⟨S_, .f32⟩
  | 55 => ⟨S4096x3, .f32⟩
  | 56 => ⟨S4096x1, .f32⟩
  | 57 => ⟨S_, .f32⟩
  | 58 => ⟨S4096x3, .f32⟩
  | 59 => ⟨S4096x3, .f32⟩
  | 60 => ⟨S4096x3, .f32⟩
  | 61 => ⟨S4096x3, .f32⟩
  | 62 => ⟨S4096x256x1, .f32⟩
  | 63 => ⟨S4096x256x3, .f32⟩
  | 64 => ⟨S4096x256x3, .f32⟩
  | 65 => ⟨S_, .f32⟩
  | 66 => ⟨S4096x3, .f32⟩
  | 67 => ⟨S4096x3, .f32⟩
  | 68 => ⟨S4096x1, .f32⟩
  | 69 => ⟨S4096x3, .f32⟩
  | 70 => ⟨S4096x3, .f32⟩
  | 71 => ⟨S4096x1, .f32⟩
  | 72 => ⟨S4096x256, .f32⟩
  | 73 => ⟨S4096x256, .f32⟩
  | 74 => ⟨S_, .f32⟩
  | 75 => ⟨S4096x1, .f32⟩
  | 76 => ⟨S4096x1, .f32⟩
  | 77 => ⟨S4096x256, .f32⟩
  | 78 => ⟨S4096x256, .f32⟩
  | 79 => ⟨S4096x256, .f32⟩
  | 80 => ⟨S4096x256, .f32⟩
  | 81 => ⟨S4096x256, .f32⟩
  | 82 => ⟨S4096x1x3, .f32⟩
  | 83 => ⟨S4096x256x3, .f32⟩
  | 84 => ⟨S4096x256x3, .f32⟩
  | 85 => ⟨S4096x256x3, .f32⟩
  | 86 => ⟨S_, .f32⟩
  | 87 => ⟨S4096x256, .f32⟩
  | 88 => ⟨S4096x256, .f32⟩
  | 89 => ⟨S_, .f32⟩
  | 90 => ⟨S4096x256, .f32⟩
  | 91 => ⟨S4096x256, .f32⟩
  | 92 => ⟨S4096x256, .f32⟩
  | 93 => ⟨S4096x256, .f32⟩
  | 94 => ⟨S4096x256, .f32⟩
  | 95 => ⟨S4096x256, .f32⟩
  | 96 => ⟨S4096x256x1, .f32⟩
  | 97 => ⟨S_, .f32⟩
  | 98 => ⟨S4096x256x1, .f32⟩
  | 99 => ⟨S4096x256x1, .f32⟩
  | 100 => ⟨S4096x256x3, .f32⟩
  | 101 => ⟨S4096x256x3, .f32⟩
  | 102 => ⟨S_, .f32⟩
  | 103 => ⟨S4096, .f32⟩
  | 104 => ⟨S_, .f32⟩
  | 105 => ⟨S4096, .f32⟩
  | 106 => ⟨S4096, .f32⟩
  | 107 => ⟨S4096x256, .f32⟩
  | 108 => ⟨S_, .f32⟩
  | 109 => ⟨S4096, .f32⟩
  | 110 => ⟨S4096, .f32⟩
  | 111 => ⟨S4096x256x1, .f32⟩
  | 112 => ⟨S4096x256x3, .f32⟩
  | 113 => ⟨S4096x256x3, .f32⟩
  | 114 => ⟨S_, .f32⟩
  | 115 => ⟨S4096x3, .f32⟩
  | 116 => ⟨S4096x1, .f32⟩
  | 117 => ⟨S_, .f32⟩
  | 118 => ⟨S4096x3, .f32⟩
  | 119 => ⟨S4096x3, .f32⟩
  | 120 => ⟨S4096x3, .f32⟩
  | 121 => ⟨S4096x3, .f32⟩
  | 122 => ⟨S4096x256x1, .f32⟩
  | 123 => ⟨S4096x256x3, .f32⟩
  | 124 => ⟨S4096x256x3, .f32⟩
  | 125 => ⟨S_, .f32⟩
  | 126 => ⟨S4096x3, .f32⟩
  | 127 => ⟨S4096x3, .f32⟩
  | _ => ⟨S4096x3, .f32⟩

abbrev hbmTy0_2 (i : Nat) : BufTy := match i % 128 with
  | 0 => ⟨S4096x1, .f32⟩
  | 1 => ⟨S4096x3, .f32⟩
  | 2 => ⟨S4096x3, .f32⟩
  | _ => ⟨S4096x3, .f32⟩

abbrev hbmTy (i : Nat) : BufTy := match i / 128 with
  | 0 => hbmTy0_0 i
  | 1 => hbmTy0_1 i
  | 2 => hbmTy0_2 i
  | _ => ⟨S4096x3, .f32⟩

abbrev bufTy : (tb : Table) → Fin (tcTables nBuf tb) → BufTy
  | .hbm, ⟨i, _⟩ => hbmTy i
  | _, _ => ⟨S4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_values : Ref sig .tc := ⟨.hbm, 34, rfl⟩
abbrev main_indices : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_values_5 : Ref sig .tc := ⟨.hbm, 43, rfl⟩
abbrev main_indices_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_11 : Ref sig .tc := ⟨.hbm, 62, rfl⟩
abbrev main_call1_v0 : Ref sig .tc := ⟨.hbm, 63, rfl⟩
abbrev main_call1_v1 : Ref sig .tc := ⟨.hbm, 64, rfl⟩
abbrev main_v41 : Ref sig .tc := ⟨.hbm, 65, rfl⟩
abbrev main_v42 : Ref sig .tc := ⟨.hbm, 66, rfl⟩
abbrev main_values_12 : Ref sig .tc := ⟨.hbm, 67, rfl⟩
abbrev main_indices_13 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_14 : Ref sig .tc := ⟨.hbm, 72, rfl⟩
abbrev main_v46 : Ref sig .tc := ⟨.hbm, 73, rfl⟩
abbrev main_v47 : Ref sig .tc := ⟨.hbm, 74, rfl⟩
abbrev main_cst_15 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_16 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_17 : Ref sig .tc := ⟨.hbm, 84, rfl⟩
abbrev main_call2_v0 : Ref sig .tc := ⟨.hbm, 85, rfl⟩
abbrev main_call2_v1 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_18 : Ref sig .tc := ⟨.hbm, 93, rfl⟩
abbrev main_v61 : Ref sig .tc := ⟨.hbm, 94, rfl⟩
abbrev main_v62 : Ref sig .tc := ⟨.hbm, 95, rfl⟩
abbrev main_cst_19 : Ref sig .tc := ⟨.hbm, 96, rfl⟩
abbrev main_v63 : Ref sig .tc := ⟨.hbm, 97, rfl⟩
abbrev main_v64 : Ref sig .tc := ⟨.hbm, 98, rfl⟩
abbrev main_cst_20 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_21 : Ref sig .tc := ⟨.hbm, 103, rfl⟩
abbrev main_v68 : Ref sig .tc := ⟨.hbm, 104, rfl⟩
abbrev main_v69 : Ref sig .tc := ⟨.hbm, 105, rfl⟩
abbrev main_c : Ref sig .tc := ⟨.hbm, 106, rfl⟩
abbrev main_v70 : Ref sig .tc := ⟨.hbm, 107, rfl⟩
abbrev main_v71 : Ref sig .tc := ⟨.hbm, 108, rfl⟩
abbrev main_c_22 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_c_23 : Ref sig .tc := ⟨.hbm, 115, rfl⟩
abbrev main_v77 : Ref sig .tc := ⟨.hbm, 116, rfl⟩
abbrev main_v78 : Ref sig .tc := ⟨.hbm, 117, rfl⟩
abbrev main_c_24 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_25 : Ref sig .tc := ⟨.hbm, 128, rfl⟩
abbrev main_v88 : Ref sig .tc := ⟨.hbm, 129, rfl⟩
abbrev main_v89 : Ref sig .tc := ⟨.hbm, 130, rfl⟩
abbrev main_cst_26 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_27 : Ref sig .tc := ⟨.hbm, 137, rfl⟩
abbrev main_v95 : Ref sig .tc := ⟨.hbm, 138, rfl⟩
abbrev main_v96 : Ref sig .tc := ⟨.hbm, 139, rfl⟩
abbrev main_cst_28 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_29 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_cst_30 : Ref sig .tc := ⟨.hbm, 153, rfl⟩
abbrev main_v108 : Ref sig .tc := ⟨.hbm, 154, rfl⟩
abbrev main_v109 : Ref sig .tc := ⟨.hbm, 155, rfl⟩
abbrev main_cst_31 : Ref sig .tc := ⟨.hbm, 156, rfl⟩
abbrev main_v110 : Ref sig .tc := ⟨.hbm, 157, rfl⟩
abbrev main_cst_32 : Ref sig .tc := ⟨.hbm, 158, rfl⟩
abbrev main_v111 : Ref sig .tc := ⟨.hbm, 159, rfl⟩
abbrev main_cst_33 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_cst_34 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_cst_35 : Ref sig .tc := ⟨.hbm, 170, rfl⟩
abbrev main_v120 : Ref sig .tc := ⟨.hbm, 171, rfl⟩
abbrev main_cst_36 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_cst_37 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_cst_38 : Ref sig .tc := ⟨.hbm, 182, rfl⟩
abbrev main_v129 : Ref sig .tc := ⟨.hbm, 183, rfl⟩
abbrev main_v130 : Ref sig .tc := ⟨.hbm, 184, rfl⟩
abbrev main_cst_39 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_cst_40 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_cst_41 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_cst_42 : Ref sig .tc := ⟨.hbm, 214, rfl⟩
abbrev main_v157 : Ref sig .tc := ⟨.hbm, 215, rfl⟩
abbrev main_v158 : Ref sig .tc := ⟨.hbm, 216, rfl⟩
abbrev main_cst_43 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_cst_44 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_cst_45 : Ref sig .tc := ⟨.hbm, 230, rfl⟩
abbrev main_v170 : Ref sig .tc := ⟨.hbm, 231, rfl⟩
abbrev main_cst_46 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_cst_47 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_cst_48 : Ref sig .tc := ⟨.hbm, 242, rfl⟩
abbrev main_v179 : Ref sig .tc := ⟨.hbm, 243, rfl⟩
abbrev main_v180 : Ref sig .tc := ⟨.hbm, 244, rfl⟩
abbrev main_cst_49 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_cst_50 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩

abbrev nD : Nat := 1
abbrev τ : Topo := Topo.v7x

variable {F : FTy → Type} [FloatOps F]
-- ==== ReferenceIdeal.lean ====
abbrev S4096x3 : Shape := ⟨2, ![4096, 3]⟩
abbrev S16384x3 : Shape := ⟨2, ![16384, 3]⟩
abbrev S_ : Shape := ⟨0, ![]⟩
abbrev S16384 : Shape := ⟨1, ![16384]⟩
abbrev S16384x1 : Shape := ⟨2, ![16384, 1]⟩
abbrev S4096 : Shape := ⟨1, ![4096]⟩
abbrev S4096x1 : Shape := ⟨2, ![4096, 1]⟩
abbrev S1x16384 : Shape := ⟨2, ![1, 16384]⟩
abbrev S4096x16384 : Shape := ⟨2, ![4096, 16384]⟩
abbrev S3x16384 : Shape := ⟨2, ![3, 16384]⟩
abbrev S4096x256 : Shape := ⟨2, ![4096, 256]⟩
abbrev S4096x256x1 : Shape := ⟨3, ![4096, 256, 1]⟩
abbrev S4096x256x3 : Shape := ⟨3, ![4096, 256, 3]⟩
abbrev S4096x1x3 : Shape := ⟨3, ![4096, 1, 3]⟩

abbrev nBuf : Space → Nat
  | .hbm => 202
  | .vmem => 0
  | .smem => 0
  | _ => 0

abbrev hbmTy0_0 (i : Nat) : BufTy := match i % 128 with
  | 0 => ⟨S4096x3, .f32⟩
  | 1 => ⟨S16384x3, .f32⟩
  | 2 => ⟨S16384x3, .f32⟩
  | 3 => ⟨S16384x3, .f32⟩
  | 4 => ⟨S_, .f32⟩
  | 5 => ⟨S16384, .f32⟩
  | 6 => ⟨S16384x1, .f32⟩
  | 7 => ⟨S16384x1, .f32⟩
  | 8 => ⟨S_, .f32⟩
  | 9 => ⟨S16384x1, .f32⟩
  | 10 => ⟨S16384x1, .f32⟩
  | 11 => ⟨S16384x3, .f32⟩
  | 12 => ⟨S16384x3, .f32⟩
  | 13 => ⟨S4096x3, .f32⟩
  | 14 => ⟨S_, .f32⟩
  | 15 => ⟨S4096, .f32⟩
  | 16 => ⟨S4096x1, .f32⟩
  | 17 => ⟨S16384x3, .f32⟩
  | 18 => ⟨S_, .f32⟩
  | 19 => ⟨S16384, .f32⟩
  | 20 => ⟨S1x16384, .f32⟩
  | 21 => ⟨S4096x16384, .f32⟩
  | 22 => ⟨S4096x16384, .f32⟩
  | 23 => ⟨S4096x16384, .f32⟩
  | 24 => ⟨S3x16384, .f32⟩
  | 25 => ⟨S4096x16384, .f32⟩
  | 26 => ⟨S_, .f32⟩
  | 27 => ⟨S4096x16384, .f32⟩
  | 28 => ⟨S4096x16384, .f32⟩
  | 29 => ⟨S4096x16384, .f32⟩
  | 30 => ⟨S_, .f32⟩
  | 31 => ⟨S4096x16384, .f32⟩
  | 32 => ⟨S4096x16384, .f32⟩
  | 33 => ⟨S4096x16384, .f32⟩
  | 34 => ⟨S4096x256, .f32⟩
  | 35 => ⟨S4096x256, .i32⟩
  | 36 => ⟨S4096x256, .f32⟩
  | 37 => ⟨S_, .f32⟩
  | 38 => ⟨S4096x256, .f32⟩
  | 39 => ⟨S4096x256, .f32⟩
  | 40 => ⟨S4096x256, .f32⟩
  | 41 => ⟨S_, .f32⟩
  | 42 => ⟨S4096, .f32⟩
  | 43 => ⟨S_, .f32⟩
  | 44 => ⟨S4096, .f32⟩
  | 45 => ⟨S4096, .f32⟩
  | 46 => ⟨S_, .f32⟩
  | 47 => ⟨S4096, .f32⟩
  | 48 => ⟨S4096, .f32⟩
  | 49 => ⟨S_, .i32⟩
  | 50 => ⟨S4096x256, .i32⟩
  | 51 => ⟨S4096x256, .i1⟩
  | 52 => ⟨S_, .i32⟩
  | 53 => ⟨S4096x256, .i32⟩
  | 54 => ⟨S4096x256, .i32⟩
  | 55 => ⟨S4096x256, .i32⟩
  | 56 => ⟨S4096x256x1, .i32⟩
  | 57 => ⟨S4096x256x3, .f32⟩
  | 58 => ⟨S_, .i32⟩
  | 59 => ⟨S4096x256, .i32⟩
  | 60 => ⟨S4096x256, .i1⟩
  | 61 => ⟨S_, .i32⟩
  | 62 => ⟨S4096x256, .i32⟩
  | 63 => ⟨S4096x256, .i32⟩
  | 64 => ⟨S4096x256, .i32⟩
  | 65 => ⟨S4096x256x1, .i32⟩
  | 66 => ⟨S4096x256x3, .f32⟩
  | 67 => ⟨S4096x1x3, .f32⟩
  | 68 => ⟨S4096x256x3, .f32⟩
  | 69 => ⟨S4096x256x3, .f32⟩
  | 70 => ⟨S4096x256x3, .f32⟩
  | 71 => ⟨S_, .f32⟩
  | 72 => ⟨S4096x256, .f32⟩
  | 73 => ⟨S4096x256x3, .f32⟩
  | 74 => ⟨S_, .f32⟩
  | 75 => ⟨S4096x256, .f32⟩
  | 76 => ⟨S4096, .f32⟩
  | 77 => ⟨S4096x1, .f32⟩
  | 78 => ⟨S4096x256, .f32⟩
  | 79 => ⟨S4096x256, .f32⟩
  | 80 => ⟨S_, .f32⟩
  | 81 => ⟨S4096x256, .f32⟩
  | 82 => ⟨S4096x256, .f32⟩
  | 83 => ⟨S_, .f32⟩
  | 84 => ⟨S4096x256, .f32⟩
  | 85 => ⟨S4096x256, .f32⟩
  | 86 => ⟨S4096x256, .f32⟩
  | 87 => ⟨S4096x256, .f32⟩
  | 88 => ⟨S4096x256, .f32⟩
  | 89 => ⟨S4096x256, .f32⟩
  | 90 => ⟨S_, .f32⟩
  | 91 => ⟨S4096x256, .f32⟩
  | 92 => ⟨S4096x256, .f32⟩
  | 93 => ⟨S4096x256, .f32⟩
  | 94 => ⟨S4096x256, .f32⟩
  | 95 => ⟨S4096x1, .f32⟩
  | 96 => ⟨S_, .f32⟩
  | 97 => ⟨S4096x1, .f32⟩
  | 98 => ⟨S4096x1, .f32⟩
  | 99 => ⟨S_, .f32⟩
  | 100 => ⟨S4096, .f32⟩
  | 101 => ⟨S_, .f32⟩
  | 102 => ⟨S4096x3, .f32⟩
  | 103 => ⟨S_, .f32⟩
  | 104 => ⟨S4096x256, .f32⟩
  | 105 => ⟨S4096x256, .f32⟩
  | 106 => ⟨S4096x256, .f32⟩
  | 107 => ⟨S4096x256x1, .f32⟩
  | 108 => ⟨S_, .f32⟩
  | 109 => ⟨S4096x256x1, .f32⟩
  | 110 => ⟨S4096x256x1, .f32⟩
  | 111 => ⟨S4096x256x3, .f32⟩
  | 112 => ⟨S4096x256x3, .f32⟩
  | 113 => ⟨S_, .f32⟩
  | 114 => ⟨S4096, .f32⟩
  | 115 => ⟨S_, .f32⟩
  | 116 => ⟨S4096, .f32⟩
  | 117 => ⟨S4096, .f32⟩
  | 118 => ⟨S4096x256, .f32⟩
  | 119 => ⟨S_, .f32⟩
  | 120 => ⟨S4096, .f32⟩
  | 121 => ⟨S4096, .f32⟩
  | 122 => ⟨S4096x256x1, .f32⟩
  | 123 => ⟨S4096x256x3, .f32⟩
  | 124 => ⟨S4096x256x3, .f32⟩
  | 125 => ⟨S_, .f32⟩
  | 126 => ⟨S4096x3, .f32⟩
  | 127 => ⟨S4096x1, .f32⟩
  | _ => ⟨S4096x3, .f32⟩

abbrev hbmTy0_1 (i : Nat) : BufTy := match i % 128 with
  | 0 => ⟨S_, .f32⟩
  | 1 => ⟨S4096x3, .f32⟩
  | 2 => ⟨S4096x3, .f32⟩
  | 3 => ⟨S4096x3, .f32⟩
  | 4 => ⟨S4096x3, .f32⟩
  | 5 => ⟨S4096x256x1, .f32⟩
  | 6 => ⟨S4096x256x3, .f32⟩
  | 7 => ⟨S4096x256x3, .f32⟩
  | 8 => ⟨S_, .f32⟩
  | 9 => ⟨S4096x3, .f32⟩
  | 10 => ⟨S4096x3, .f32⟩
  | 11 => ⟨S4096x1, .f32⟩
  | 12 => ⟨S4096x3, .f32⟩
  | 13 => ⟨S4096x3, .f32⟩
  | 14 => ⟨S4096x1, .f32⟩
  | 15 => ⟨S4096x256, .f32⟩
  | 16 => ⟨S4096x256, .f32⟩
  | 17 => ⟨S_, .f32⟩
  | 18 => ⟨S4096x1, .f32⟩
  | 19 => ⟨S4096x1, .f32⟩
  | 20 => ⟨S4096x256, .f32⟩
  | 21 => ⟨S4096x256, .f32⟩
  | 22 => ⟨S4096x256, .f32⟩
  | 23 => ⟨S4096x256, .f32⟩
  | 24 => ⟨S4096x256, .f32⟩
  | 25 => ⟨S4096x1x3, .f32⟩
  | 26 => ⟨S4096x256x3, .f32⟩
  | 27 => ⟨S4096x256x3, .f32⟩
  | 28 => ⟨S4096x256x3, .f32⟩
  | 29 => ⟨S_, .f32⟩
  | 30 => ⟨S4096x256, .f32⟩
  | 31 => ⟨S4096x256, .f32⟩
  | 32 => ⟨S_, .f32⟩
  | 33 => ⟨S4096x256, .f32⟩
  | 34 => ⟨S4096x256, .f32⟩
  | 35 => ⟨S4096x256, .f32⟩
  | 36 => ⟨S4096x256, .f32⟩
  | 37 => ⟨S4096x256, .f32⟩
  | 38 => ⟨S4096x256, .f32⟩
  | 39 => ⟨S4096x256x1, .f32⟩
  | 40 => ⟨S_, .f32⟩
  | 41 => ⟨S4096x256x1, .f32⟩
  | 42 => ⟨S4096x256x1, .f32⟩
  | 43 => ⟨S4096x256x3, .f32⟩
  | 44 => ⟨S4096x256x3, .f32⟩
  | 45 => ⟨S_, .f32⟩
  | 46 => ⟨S4096, .f32⟩
  | 47 => ⟨S_, .f32⟩
  | 48 => ⟨S4096, .f32⟩
  | 49 => ⟨S4096, .f32⟩
  | 50 => ⟨S4096x256, .f32⟩
  | 51 => ⟨S_, .f32⟩
  | 52 => ⟨S4096, .f32⟩
  | 53 => ⟨S4096, .f32⟩
  | 54 => ⟨S4096x256x1, .f32⟩
  | 55 => ⟨S4096x256x3, .f32⟩
  | 56 => ⟨S4096x256x3, .f32⟩
  | 57 => ⟨S_, .f32⟩
  | 58 => ⟨S4096x3, .f32⟩
  | 59 => ⟨S4096x1, .f32⟩
  | 60 => ⟨S_, .f32⟩
  | 61 => ⟨S4096x3, .f32⟩
  | 62 => ⟨S4096x3, .f32⟩
  | 63 => ⟨S4096x3, .f32⟩
  | 64 => ⟨S4096x3, .f32⟩
  | 65 => ⟨S4096x256x1, .f32⟩
  | 66 => ⟨S4096x256x3, .f32⟩
  | 67 => ⟨S4096x256x3, .f32⟩
  | 68 => ⟨S_, .f32⟩
  | 69 => ⟨S4096x3, .f32⟩
  | 70 => ⟨S4096x3, .f32⟩
  | 71 => ⟨S4096x1, .f32⟩
  | 72 => ⟨S4096x3, .f32⟩
  | 73 => ⟨S4096x3, .f32⟩
  | _ => ⟨S4096x3, .f32⟩

abbrev hbmTy (i : Nat) : BufTy := match i / 128 with
  | 0 => hbmTy0_0 i
  | 1 => hbmTy0_1 i
  | _ => ⟨S4096x3, .f32⟩

abbrev bufTy : (tb : Table) → Fin (tcTables nBuf tb) → BufTy
  | .hbm, ⟨i, _⟩ => hbmTy i
  | _, _ => ⟨S4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_values : Ref sig .tc := ⟨.hbm, 34, rfl⟩
abbrev main_indices : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_c : Ref sig .tc := ⟨.hbm, 49, rfl⟩
abbrev main_v31 : Ref sig .tc := ⟨.hbm, 50, rfl⟩
abbrev main_v32 : Ref sig .tc := ⟨.hbm, 51, rfl⟩
abbrev main_c_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_9 : Ref sig .tc := ⟨.hbm, 58, rfl⟩
abbrev main_v38 : Ref sig .tc := ⟨.hbm, 59, rfl⟩
abbrev main_v39 : Ref sig .tc := ⟨.hbm, 60, rfl⟩
abbrev main_c_10 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_11 : Ref sig .tc := ⟨.hbm, 71, rfl⟩
abbrev main_v49 : Ref sig .tc := ⟨.hbm, 72, rfl⟩
abbrev main_v50 : Ref sig .tc := ⟨.hbm, 73, rfl⟩
abbrev main_cst_12 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_13 : Ref sig .tc := ⟨.hbm, 80, rfl⟩
abbrev main_v56 : Ref sig .tc := ⟨.hbm, 81, rfl⟩
abbrev main_v57 : Ref sig .tc := ⟨.hbm, 82, rfl⟩
abbrev main_cst_14 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_15 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_16 : Ref sig .tc := ⟨.hbm, 96, rfl⟩
abbrev main_v69 : Ref sig .tc := ⟨.hbm, 97, rfl⟩
abbrev main_v70 : Ref sig .tc := ⟨.hbm, 98, rfl⟩
abbrev main_cst_17 : Ref sig .tc := ⟨.hbm, 99, rfl⟩
abbrev main_v71 : Ref sig .tc := ⟨.hbm, 100, rfl⟩
abbrev main_cst_18 : Ref sig .tc := ⟨.hbm, 101, rfl⟩
abbrev main_v72 : Ref sig .tc := ⟨.hbm, 102, rfl⟩
abbrev main_cst_19 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_20 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_21 : Ref sig .tc := ⟨.hbm, 113, rfl⟩
abbrev main_v81 : Ref sig .tc := ⟨.hbm, 114, rfl⟩
abbrev main_cst_22 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_23 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_24 : Ref sig .tc := ⟨.hbm, 125, rfl⟩
abbrev main_v90 : Ref sig .tc := ⟨.hbm, 126, rfl⟩
abbrev main_v91 : Ref sig .tc := ⟨.hbm, 127, rfl⟩
abbrev main_cst_25 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_26 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_27 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_cst_28 : Ref sig .tc := ⟨.hbm, 157, rfl⟩
abbrev main_v118 : Ref sig .tc := ⟨.hbm, 158, rfl⟩
abbrev main_v119 : Ref sig .tc := ⟨.hbm, 159, rfl⟩
abbrev main_cst_29 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_cst_30 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_cst_31 : Ref sig .tc := ⟨.hbm, 173, rfl⟩
abbrev main_v131 : Ref sig .tc := ⟨.hbm, 174, rfl⟩
abbrev main_cst_32 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_cst_33 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_cst_34 : Ref sig .tc := ⟨.hbm, 185, rfl⟩
abbrev main_v140 : Ref sig .tc := ⟨.hbm, 186, rfl⟩
abbrev main_v141 : Ref sig .tc := ⟨.hbm, 187, rfl⟩
abbrev main_cst_35 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_cst_36 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩

abbrev nD : Nat := 1
abbrev τ : Topo := Topo.v7x

variable {F : FTy → Type} [FloatOps F]
-- ==== Proof.KernelForm.lean ====
/- The block a tile of queries leaves behind, said over again as two passes of one fit: every weighted sum over the
   16384 points is a sum of eight chunks of 2048, and the second pass is the first with other weights. -/
module
public import proofs.«01_k».proof.Proof.Gen.KernelIdeal.Frame
public import Idealize.ShloMosaic.Lib.Pipeline.Value
@[expose] public section
set_option maxRecDepth 16384
noncomputable section
namespace Cert.KernelIdeal.Form
open Cert.KernelIdeal Cert.KernelIdeal.Gen
open Idealize.ShloMosaic Idealize.ShloMosaic.TcCoe Idealize.ShloMosaic.Tactic
open Idealize.ShloMosaic.Pipeline (Dat Cfg Window BodyObligation cellOf)

variable {F : FTy → Type} [FloatOps F] [Named F]

/-- One column of a tile: a number per query. -/
abbrev Col (F : FTy → Type) := FVec F S128x1 .f32
/-- One row over all points. -/
abbrev Row (F : FTy → Type) := FVec F S1x16384 .f32
/-- A number per query and point. -/
abbrev Full (F : FTy → Type) := FVec F S128x16384 .f32
/-- A number per query and point of one chunk. -/
abbrev Part (F : FTy → Type) := FVec F S128x2048 .f32

/-- A chunk of 2048 consecutive points, from `o` on. -/
structure Chunk where
  o : ℕ
  wide : S128x16384.Slices ![0, o] S128x2048
  thin : S1x16384.Slices ![0, o] S1x2048
  le : o + 2048 ≤ 16384

def ch0 : Chunk := ⟨0, slices_S128x16384_o0_0_S128x2048, slices_S1x16384_o0_0_S1x2048, by decide⟩
def ch1 : Chunk := ⟨2048, slices_S128x16384_o0_2048_S128x2048, slices_S1x16384_o0_2048_S1x2048, by decide⟩
def ch2 : Chunk := ⟨4096, slices_S128x16384_o0_4096_S128x2048, slices_S1x16384_o0_4096_S1x2048, by decide⟩
def ch3 : Chunk := ⟨6144, slices_S128x16384_o0_6144_S128x2048, slices_S1x16384_o0_6144_S1x2048, by decide⟩
def ch4 : Chunk := ⟨8192, slices_S128x16384_o0_8192_S128x2048, slices_S1x16384_o0_8192_S1x2048, by decide⟩
def ch5 : Chunk := ⟨10240, slices_S128x16384_o0_10240_S128x2048, slices_S1x16384_o0_10240_S1x2048, by decide⟩
def ch6 : Chunk := ⟨12288, slices_S128x16384_o0_12288_S128x2048, slices_S1x16384_o0_12288_S1x2048, by decide⟩
def ch7 : Chunk := ⟨14336, slices_S128x16384_o0_14336_S128x2048, slices_S1x16384_o0_14336_S1x2048, by decide⟩

def spread (x : Col F) : Part F := broadcastTo S128x2048 x broadcasts_S128x1_S128x2048
def rowOf (k : Chunk) (x : Row F) : FVec F S1x2048 .f32 := extractStridedSlice S1x2048 ![0, k.o] x k.thin
def down (k : Chunk) (x : Row F) : Part F := broadcastTo S128x2048 (rowOf k x) broadcasts_S1x2048_S128x2048
def cut (k : Chunk) (x : Full F) : Part F := extractStridedSlice S128x2048 ![0, k.o] x k.wide
def rowSum (x : Part F) : Col F :=
  shapeCast S128x1 (multiReduction .add [1] S128 x 0x00000000#32 reduces_S128x2048_S128 (.inl rfl) rfl) shapeCasts_S128_S128x1
def fill (b : BitVec 32) : Col F := broadcast S128x1 (Scalar.ofBits .f32 b)
def fillP (b : BitVec 32) : Part F := broadcast S128x2048 (Scalar.ofBits .f32 b)
/-- The reciprocal of the normals' squared scale. -/
def rate : Part F := broadcast S128x2048 (Named.named κ "inv_sigma_n_squared" 0x3FC80000#32)

/-- The sum over all points, chunk after chunk. -/
def total (g : Chunk → Part F) : Col F :=
  addf (addf (addf (addf (addf (addf (addf (addf (fill 0x00000000#32) (rowSum (g ch0))) (rowSum (g ch1))) (rowSum (g ch2)))
    (rowSum (g ch3))) (rowSum (g ch4))) (rowSum (g ch5))) (rowSum (g ch6))) (rowSum (g ch7))

/-- What both passes read: the query's coordinates, the points' and normals' rows, the squared lengths of the normals,
    the inverse squared bandwidth, the inverse residual scale, the plane distances and the clipped kernel argument. -/
structure Data (F : FTy → Type) where
  q : Fin 3 → Col F
  p : Fin 3 → Row F
  n : Fin 3 → Row F
  nn : Row F
  ih : Col F
  isr : Col F
  fx : Full F
  tt : Full F

variable (D : Data F)

def Data.sq (k : Chunk) : Part F := mulf (cut k D.tt) (cut k D.tt)
def Data.phi (k : Chunk) : Part F := mulf (D.sq k) (D.sq k)
def Data.slope (k : Chunk) : Part F := mulf (spread (mulf (fill 0xC1000000#32) D.ih)) (mulf (D.sq k) (cut k D.tt))
def Data.diff (a : Fin 3) (k : Chunk) : Part F := subf (spread (D.q a)) (down k (D.p a))

/-- One fit from the weights `w` and the weighted slopes `m`. -/
def Data.weight (w : Chunk → Part F) : Col F := addf (total w) (fill 0x322BCC77#32)
def Data.value (w : Chunk → Part F) : Col F := divf (total fun k => mulf (w k) (cut k D.fx)) (Data.weight w)
def Data.grad (w m : Chunk → Part F) (a : Fin 3) : Col F :=
  divf (addf (subf (total fun k => mulf (mulf (m k) (D.diff a k)) (cut k D.fx))
      (mulf (D.value w) (total fun k => mulf (m k) (D.diff a k))))
    (total fun k => mulf (w k) (down k (D.n a)))) (Data.weight w)

def Data.f0 : Col F := D.value D.phi
def Data.g0 (a : Fin 3) : Col F := D.grad D.phi D.slope a
def Data.gg : Col F := addf (addf (mulf (D.g0 0) (D.g0 0)) (mulf (D.g0 1) (D.g0 1))) (mulf (D.g0 2) (D.g0 2))

def Data.resid (k : Chunk) : Part F := mulf (subf (cut k D.fx) (spread D.f0)) (spread D.isr)
def Data.ng (k : Chunk) : Part F :=
  addf (addf (mulf (down k (D.n 0)) (spread (D.g0 0))) (mulf (down k (D.n 1)) (spread (D.g0 1))))
    (mulf (down k (D.n 2)) (spread (D.g0 2)))
def Data.alpha (k : Chunk) : Part F :=
  exp (subf (subf (fillP 0x00000000#32) (mulf (D.resid k) (D.resid k)))
    (mulf (addf (subf (down k D.nn) (mulf (fillP 0x40000000#32) (D.ng k))) (spread D.gg)) rate))
def Data.w1 (k : Chunk) : Part F := mulf (D.alpha k) (D.phi k)
def Data.m1 (k : Chunk) : Part F := mulf (D.alpha k) (D.slope k)
def Data.f1 : Col F := D.value D.w1
def Data.g1 (a : Fin 3) : Col F := D.grad D.w1 D.m1 a

section block
variable (x0 : Vec F S128x3 .f32) (x1 x2 : Vec F S3x16384 .f32)

/-- The squared distances of the tile. -/
def d2 : Full F := k0_pay19 (k0_pay16 x0 x1) (k0_pay17 x0 x1) k0_pay18
def bis1 : Col F × Col F := Scf.fold (n := k0_t1_loop.trips)
  (fun _ s => (k0_pay25 (k0_pay16 x0 x1) (k0_pay17 x0 x1) k0_pay18 s.1 s.2,
    k0_pay26 (k0_pay16 x0 x1) (k0_pay17 x0 x1) k0_pay18 s.1 s.2))
  (k0_pay22, k0_pay21 (k0_pay16 x0 x1) (k0_pay17 x0 x1) k0_pay18)
def bis2 : Col F × Col F := Scf.fold (n := k0_t2_loop.trips)
  (fun _ s => (k0_pay30 (k0_pay16 x0 x1) (k0_pay17 x0 x1) k0_pay18 s.1 s.2,
    k0_pay31 (k0_pay16 x0 x1) (k0_pay17 x0 x1) k0_pay18 s.1 s.2))
  (k0_pay27, (bis1 x0 x1).2)
def ihOf : Col F := k0_pay33 (k0_pay16 x0 x1) (k0_pay17 x0 x1) k0_pay18 (bis2 x0 x1).2

def data : Data F where
  q := ![k0_pay3 x0, k0_pay4 x0, k0_pay5 x0]
  p := ![k0_pay6 x1, k0_pay7 x1, k0_pay8 x1]
  n := ![k0_pay9 x2, k0_pay10 x2, k0_pay11 x2]
  nn := k0_pay12 x2
  ih := ihOf x0 x1
  isr := k0_pay36 (k0_pay34 (k0_pay16 x0 x1) (k0_pay17 x0 x1) k0_pay18 (bis2 x0 x1).2) k0_pay35
  fx := k0_pay37 (k0_pay3 x0) (k0_pay4 x0) (k0_pay5 x0) (k0_pay9 x2) (k0_pay10 x2) (k0_pay11 x2) (k0_pay13 x1 x2)
  tt := k0_pay38 (k0_pay3 x0) (k0_pay4 x0) (k0_pay5 x0) (k0_pay6 x1) (k0_pay7 x1) (k0_pay8 x1) (k0_pay14 x0) (k0_pay15 x1)
    (ihOf x0 x1)
end block

section runs
variable (c : Dev nD) (i : grid0.Coords) (arg1 : Memref sig .tc .vmem S128x3 .f32) (harg1 : arg1.IsWhole) (arg2 : Memref sig .tc .vmem S3x16384 .f32) (harg2 : arg2.IsWhole) (arg3 : Memref sig .tc .vmem S3x16384 .f32) (harg3 : arg3.IsWhole) (arg4 : Memref sig .tc .vmem S128x1 .f32) (harg4 : arg4.IsWhole) (arg5 : Memref sig .tc .vmem S128x3 .f32) (harg5 : arg5.IsWhole)
    (x0 : Vec F S128x3 .f32) (x1 : Vec F S3x16384 .f32) (x2 : Vec F S3x16384 .f32)

/-- The same data under the names the run gives its values. -/
def runData : Data F where
  q := ![kernelRun0_A.sl.r c arg1 harg1 x0, kernelRun0_A.sl.r_1 c arg1 harg1 x0, kernelRun0_A.sl.r_2 c arg1 harg1 x0]
  p := ![kernelRun0_A.sl.r_3 c arg2 harg2 x1, kernelRun0_A.sl.r_4 c arg2 harg2 x1, kernelRun0_A.sl.r_5 c arg2 harg2 x1]
  n := ![kernelRun0_A.sl.r_6 c arg3 harg3 x2, kernelRun0_A.sl.r_7 c arg3 harg3 x2, kernelRun0_A.sl.r_8 c arg3 harg3 x2]
  nn := kernelRun0_A.sl.r_9 c arg3 harg3 x2
  ih := kernelRun0_A.sl.r_17 c arg1 harg1 arg2 harg2 x0 x1
  isr := kernelRun0_A.sl.r_19 c arg1 harg1 arg2 harg2 x0 x1
  fx := kernelRun0_A.sl.r_20 c arg1 harg1 arg2 harg2 arg3 harg3 x0 x1 x2
  tt := kernelRun0_A.sl.r_21 c arg1 harg1 arg2 harg2 x0 x1

theorem run_f1 : k0_pay485 (kernelRun0_A.sl.r_371 c arg1 harg1 arg2 harg2 arg3 harg3 x0 x1 x2) (kernelRun0_A.sl.r_372 c arg1 harg1 arg2 harg2 arg3 harg3 x0 x1 x2) = (runData c arg1 harg1 arg2 harg2 arg3 harg3 x0 x1 x2).f1 := by sl_kernel_rfl

theorem runData_eq : runData c arg1 harg1 arg2 harg2 arg3 harg3 x0 x1 x2 = data x0 x1 x2 := by
  unfold runData data ihOf bis2 bis1
  sl_unfold_words
  simp only [View.readAt_eq_ld, harg1.read_unread, harg2.read_unread, harg3.read_unread]
  rw [View.ld_unit_zero (S := S128x3) (off := ![0, 0]) (by decide), View.ld_unit_zero (S := S3x16384) (off := ![0, 0]) (by decide),
    View.ld_unit_zero (S := S3x16384) (off := ![0, 0]) (by decide)]

theorem out3_form : out0_A_3 c i arg1 harg1 arg2 harg2 arg3 harg3 arg4 harg4 arg5 harg5 x0 x1 x2 = (data x0 x1 x2).f1 := by
  unfold out0_A_3
  rw [View.read_writes_eq_canon _ _ _ (cover0_A_3 c i arg1 harg1 arg2 harg2 arg3 harg3 arg4 harg4 arg5 harg5 x0 x1 x2)]
  unfold kernelRun0_A
  dsimp only
  refine (View.canon_unit_zero (S := S128x1) (off := ![0, 0]) (by decide) _ _).trans ?_
  rw [run_f1, runData_eq]

theorem out4_form : out0_A_4 c i arg1 harg1 arg2 harg2 arg3 harg3 arg4 harg4 arg5 harg5 x0 x1 x2 = View.canon
    [⟨Rect.unit ![0, 2] ![128, 1] inb_S128x3_S128x1_0_2, (data x0 x1 x2).g1 2⟩,
     ⟨Rect.unit ![0, 1] ![128, 1] inb_S128x3_S128x1_0_1, (data x0 x1 x2).g1 1⟩,
     ⟨Rect.unit ![0, 0] ![128, 1] inb_S128x3_S128x1_0_0, (data x0 x1 x2).g1 0⟩] := by
  unfold out0_A_4
  rw [View.read_writes_eq_canon _ _ _ (cover0_A_4 c i arg1 harg1 arg2 harg2 arg3 harg3 arg4 harg4 arg5 harg5 x0 x1 x2)]
  unfold kernelRun0_A
  dsimp only
  rw [← runData_eq c arg1 harg1 arg2 harg2 arg3 harg3]
  sl_kernel_rfl
end runs
end Cert.KernelIdeal.Form
-- ==== Proof.RealMath.lean ====
/- The real arithmetic of the claim: bisection lands on a grid, the mean of the K nearest distances against its
   value on the grid, and the fit. Nothing here mentions a program. -/
module
public import Idealize.ShloMosaic.Lib.Pointwise
public import Idealize.ShloMosaic.Lib.IdealHost
public import Mathlib.Order.Interval.Finset.Fin
@[expose] public section
noncomputable section
namespace Rimls
open Finset

/-! ## Bisection -/

/-- One halving of `(lo, hi)`, the predicate being `a ≤ ·`. -/
def halve (a : ℝ) (s : ℝ × ℝ) : ℝ × ℝ :=
  if a ≤ 1 / 2 * (s.1 + s.2) then (s.1, 1 / 2 * (s.1 + s.2)) else (1 / 2 * (s.1 + s.2), s.2)

/-- The least positive multiple of `step` that is at least `a`. -/
def roundedUp (a step : ℝ) : ℝ := if 0 < step then max (⌈a / step⌉ : ℝ) 1 * step else 0

theorem halve_inv (a H : ℝ) (ha : a ≤ H) (n : ℕ) :
    ∃ m : ℕ, ((halve a)^[n] (0, H)).1 = m * (H / 2 ^ n) ∧ ((halve a)^[n] (0, H)).2 = (m + 1) * (H / 2 ^ n) ∧
      (m = 0 ∨ m * (H / 2 ^ n) < a) ∧ a ≤ (m + 1) * (H / 2 ^ n) := by
  induction n with
  | zero => exact ⟨0, by simp, by simp, Or.inl rfl, by simpa using ha⟩
  | succ n ih =>
    obtain ⟨m, h1, h2, h3, h4⟩ := ih
    have hs : H / 2 ^ n = 2 * (H / 2 ^ (n + 1)) := by rw [pow_succ]; field_simp
    have hm : 1 / 2 * (((halve a)^[n] (0, H)).1 + ((halve a)^[n] (0, H)).2) = (2 * m + 1) * (H / 2 ^ (n + 1)) := by
      rw [h1, h2, hs]; ring
    rw [Function.iterate_succ_apply']
    by_cases hc : a ≤ (2 * m + 1) * (H / 2 ^ (n + 1))
    · refine ⟨2 * m, ?_, ?_, ?_, ?_⟩
      · rw [halve, hm, if_pos hc]; simp only [h1, hs]; push_cast; ring
      · rw [halve, hm, if_pos hc]; push_cast; ring
      · rcases h3 with h3 | h3
        · left; omega
        · right; rw [hs] at h3; push_cast; linarith
      · push_cast; exact hc
    · refine ⟨2 * m + 1, ?_, ?_, ?_, ?_⟩
      · rw [halve, hm, if_neg hc]; push_cast; ring
      · rw [halve, hm, if_neg hc]; simp only [h2, hs]; push_cast; ring
      · right; push_cast; exact not_le.1 hc
      · rw [hs] at h4; push_cast; linarith

theorem halve_iterate (a H : ℝ) (hH : 0 ≤ H) (ha : a ≤ H) (n : ℕ) :
    ((halve a)^[n] (0, H)).2 = roundedUp a (H / 2 ^ n) := by
  obtain ⟨m, -, h2, h3, h4⟩ := halve_inv a H ha n
  rw [h2, roundedUp]
  split_ifs with hs
  · congr 1
    have h4' : a / (H / 2 ^ n) ≤ m + 1 := (div_le_iff₀ hs).2 h4
    rcases h3 with rfl | h3
    · rw [max_eq_right]; · simp
      have : ⌈a / (H / 2 ^ n)⌉ ≤ 1 := Int.ceil_le.2 (by simpa using h4')
      exact_mod_cast this
    · have h3' : (m : ℝ) < a / (H / 2 ^ n) := (lt_div_iff₀ hs).2 h3
      have hc : ⌈a / (H / 2 ^ n)⌉ = (m : ℤ) + 1 := by
        rw [Int.ceil_eq_iff]; push_cast; constructor <;> linarith
      rw [hc]; push_cast
      rw [max_eq_left]; linarith [(Nat.cast_nonneg m : (0 : ℝ) ≤ m)]
  · have : H / 2 ^ n = 0 := le_antisymm (not_lt.1 hs) (by positivity)
    rw [this, mul_zero]

theorem roundedUp_nonneg (a s : ℝ) : 0 ≤ roundedUp a s := by
  rw [roundedUp]; split_ifs with h
  · exact mul_nonneg (le_max_of_le_right zero_le_one) h.le
  · exact le_rfl

theorem le_roundedUp (a s : ℝ) (h : 0 < s) : a ≤ roundedUp a s := by
  rw [roundedUp, if_pos h]
  calc a = a / s * s := by field_simp
    _ ≤ _ := mul_le_mul_of_nonneg_right (le_max_of_le_left (Int.le_ceil _)) h.le

theorem roundedUp_le (a s : ℝ) (ha : 0 ≤ a) (hs : 0 ≤ s) : roundedUp a s ≤ a + s := by
  rw [roundedUp]; split_ifs with h
  · have : max (⌈a / s⌉ : ℝ) 1 ≤ a / s + 1 :=
      max_le (Int.ceil_lt_add_one _).le (by linarith [div_nonneg ha hs])
    calc _ ≤ (a / s + 1) * s := mul_le_mul_of_nonneg_right this hs
      _ = a + s := by field_simp
  · linarith

theorem roundedUp_le_of_le (a H : ℝ) (n : ℕ) (hH : 0 ≤ H) (ha : a ≤ H) : roundedUp a (H / 2 ^ n) ≤ H := by
  rw [← halve_iterate a H hH ha]
  have key : ∀ n, ((halve a)^[n] (0, H)).1 ≤ H ∧ ((halve a)^[n] (0, H)).2 ≤ H := by
    intro n
    induction n with
    | zero => exact ⟨hH, le_rfl⟩
    | succ n ih =>
      rw [Function.iterate_succ_apply', halve]
      split_ifs
      · exact ⟨ih.1, by linarith [ih.1, ih.2]⟩
      · exact ⟨by linarith [ih.1, ih.2], ih.2⟩
  exact (key n).2

/-! ## The k-th smallest -/

/-- `σ` lists `d` in increasing order. -/
structure Sorts {n : ℕ} (d : Fin n → ℝ) (σ : Fin n → Fin n) : Prop where
  bij : Function.Bijective σ
  mono : ∀ i j, i ≤ j → d (σ i) ≤ d (σ j)

theorem Sorts.count {n : ℕ} {d : Fin n → ℝ} {σ : Fin n → Fin n} (h : Sorts d σ) (k : Fin n) (x : ℝ) :
    k.val + 1 ≤ #{i | d i ≤ x} ↔ d (σ k) ≤ x := by
  constructor
  · intro hc
    by_contra hx
    have hsub : ({i | d i ≤ x} : Finset (Fin n)) ⊆ (Finset.Iio k).image σ := by
      intro i hi
      obtain ⟨j, rfl⟩ := h.bij.2 i
      rw [mem_image]
      refine ⟨j, ?_, rfl⟩
      rw [mem_Iio]
      by_contra hjk
      exact hx ((h.mono k j (not_lt.1 hjk)).trans (mem_filter.1 hi).2)
    have h1 := (card_le_card hsub).trans card_image_le
    have h2 : #(Finset.Iio k) = k.val := Fin.card_Iio k
    omega
  · intro hx
    have hsub : (Finset.Iic k).image σ ⊆ ({i | d i ≤ x} : Finset (Fin n)) := by
      intro i hi
      obtain ⟨j, hj, rfl⟩ := mem_image.1 hi
      rw [mem_filter]
      exact ⟨mem_univ _, (h.mono j k (mem_Iic.1 hj)).trans hx⟩
    have h1 := card_le_card hsub
    rw [card_image_of_injective _ h.bij.1, Fin.card_Iic] at h1
    exact h1

theorem Sorts.kth_unique {n : ℕ} {d : Fin n → ℝ} {σ τ : Fin n → Fin n} (h : Sorts d σ) (h' : Sorts d τ) (k : Fin n) :
    d (σ k) = d (τ k) :=
  le_antisymm ((h.count k _).1 ((h'.count k _).2 le_rfl)) ((h'.count k _).1 ((h.count k _).2 le_rfl))

/-! ## The bandwidth -/

section bandwidth
variable {n : ℕ} (d : Fin n → ℝ)

/-- The mean distance, from the points nearer than `√T`. -/
theorem below_sum (K T : ℝ) :
    (∑ i, if d i < T then √(d i) else 0) + (K - ∑ i, if d i < T then (1 : ℝ) else 0) * √T
      = K * √T - ∑ i, max (√T - √(d i)) 0 := by
  have h : ∀ i, max (√T - √(d i)) 0 = (if d i < T then (1 : ℝ) else 0) * √T - if d i < T then √(d i) else 0 := by
    intro i
    split_ifs with hi
    · rw [max_eq_left]; · ring
      exact sub_nonneg.2 (Real.sqrt_le_sqrt hi.le)
    · rw [max_eq_right]; · ring
      exact sub_nonpos.2 (Real.sqrt_le_sqrt (not_lt.1 hi))
  rw [sum_congr rfl fun i _ => h i, sum_sub_distrib, ← sum_mul]; ring

/-- The mean of the K nearest distances is at least its value on the grid. -/
theorem grid_le {K : ℕ} {σ : Fin n → Fin n} (hσ : Sorts d σ) (hK : K ≤ n) (r : ℝ) :
    K * r - ∑ i, max (r - √(d i)) 0 ≤ ∑ j : Fin K, √(d (σ (Fin.castLE hK j))) := by
  have hinj : Function.Injective fun j : Fin K => σ (Fin.castLE hK j) :=
    hσ.bij.1.comp (Fin.castLE_injective hK)
  have h1 : ∑ j : Fin K, max (r - √(d (σ (Fin.castLE hK j)))) 0 ≤ ∑ i, max (r - √(d i)) 0 := by
    rw [← Finset.sum_image (s := Finset.univ) (g := fun j : Fin K => σ (Fin.castLE hK j))
      (f := fun i => max (r - √(d i)) 0) (fun a _ b _ hab => hinj hab)]
    exact sum_le_sum_of_subset_of_nonneg (subset_univ _) fun _ _ _ => le_max_right _ _
  have h2 : (K : ℝ) * r - ∑ j : Fin K, √(d (σ (Fin.castLE hK j))) ≤ ∑ j : Fin K, max (r - √(d (σ (Fin.castLE hK j)))) 0 := by
    have : (K : ℝ) * r = ∑ _j : Fin K, r := by simp
    rw [this, ← sum_sub_distrib]
    exact sum_le_sum fun _ _ => le_max_left _ _
  linarith

/-- It is that value where the grid's radius separates the K-th from the next. -/
theorem grid_eq {K : ℕ} {σ : Fin n → Fin n} (hσ : Sorts d σ) (hK : K ≤ n) (r : ℝ)
    (hin : ∀ j : Fin n, j.val < K → √(d (σ j)) ≤ r) (hout : ∀ j : Fin n, K ≤ j.val → r ≤ √(d (σ j))) :
    K * r - ∑ i, max (r - √(d i)) 0 = ∑ j : Fin K, √(d (σ (Fin.castLE hK j))) := by
  have hinj : Function.Injective fun j : Fin K => σ (Fin.castLE hK j) :=
    hσ.bij.1.comp (Fin.castLE_injective hK)
  have h1 : ∑ j : Fin K, max (r - √(d (σ (Fin.castLE hK j)))) 0 = ∑ i, max (r - √(d i)) 0 := by
    refine Fintype.sum_of_injective _ hinj _ _ ?_ (fun _ => rfl)
    intro i hi
    obtain ⟨j, rfl⟩ := hσ.bij.2 i
    refine max_eq_right (sub_nonpos.2 (hout j ?_))
    by_contra hj
    exact hi ⟨⟨j.val, not_le.1 hj⟩, rfl⟩
  rw [← h1, sum_congr rfl fun j _ => max_eq_left (sub_nonneg.2 (hin _ j.2)), sum_sub_distrib]
  simp

end bandwidth

/-! ## The fit -/

section fit
variable {ι : Type*} [Fintype ι] {κ : Type*} [Fintype κ]

/-- The literal 1e-8. -/
def eps : ℝ := 11258999 / 2 ^ 50

theorem eps_pos : 0 < eps := by rw [eps]; positivity

/-- The float nearest 0.64. -/
def sigmaSq : ℝ := 5368709 / 8388608
theorem sigmaSq_ne : sigmaSq ≠ 0 := by norm_num [sigmaSq]

def fxOf (x n : ι → Fin 3 → ℝ) (i : ι) : ℝ := ∑ a, x i a * n i a
def lenSq (x : ι → Fin 3 → ℝ) (i : ι) : ℝ := ∑ a, x i a * x i a
def clip (h : ℝ) (x : ι → Fin 3 → ℝ) (i : ι) : ℝ := max (1 - lenSq x i / (h * h)) 0
def phiOf (h : ℝ) (x : ι → Fin 3 → ℝ) (i : ι) : ℝ := clip h x i ^ 4
def slopeOf (h : ℝ) (x : ι → Fin 3 → ℝ) (i : ι) : ℝ := -8 * clip h x i ^ 3 / (h * h)

def weightOf (w : ι → ℝ) : ℝ := ∑ i, w i + eps
def valueOf (w : ι → ℝ) (x n : ι → Fin 3 → ℝ) : ℝ := (∑ i, w i * fxOf x n i) / weightOf w
def gradOf (w m : ι → ℝ) (x n : ι → Fin 3 → ℝ) (a : Fin 3) : ℝ :=
  (∑ i, m i * x i a * fxOf x n i - valueOf w x n * ∑ i, m i * x i a + ∑ i, w i * n i a) / weightOf w

def f0 (h : ℝ) (x n : ι → Fin 3 → ℝ) : ℝ := valueOf (phiOf h x) x n
def g0 (h : ℝ) (x n : ι → Fin 3 → ℝ) (a : Fin 3) : ℝ := gradOf (phiOf h x) (slopeOf h x) x n a
def alphaOf (h : ℝ) (x n : ι → Fin 3 → ℝ) (i : ι) : ℝ :=
  Real.exp (-((fxOf x n i - f0 h x n) / (1 / 2 * h + eps)) ^ 2
    + -(∑ a, (n i a - g0 h x n a) ^ 2) / sigmaSq)
def f1 (h : ℝ) (x n : ι → Fin 3 → ℝ) : ℝ := valueOf (fun i => alphaOf h x n i * phiOf h x i) x n
def g1 (h : ℝ) (x n : ι → Fin 3 → ℝ) (a : Fin 3) : ℝ :=
  gradOf (fun i => alphaOf h x n i * phiOf h x i) (fun i => alphaOf h x n i * slopeOf h x i) x n a

theorem weightOf_pos {w : ι → ℝ} (hw : ∀ i, 0 ≤ w i) : 0 < weightOf w :=
  add_pos_of_nonneg_of_pos (sum_nonneg fun i _ => hw i) eps_pos

theorem phiOf_nonneg (h : ℝ) (x : ι → Fin 3 → ℝ) (i : ι) : 0 ≤ phiOf h x i := by rw [phiOf]; positivity

theorem alphaOf_pos (h : ℝ) (x n : ι → Fin 3 → ℝ) (i : ι) : 0 < alphaOf h x n i := Real.exp_pos _

section restrict
variable (σ : κ → ι) (hσ : Function.Injective σ)
include hσ

theorem valueOf_restrict (w : ι → ℝ) (x n : ι → Fin 3 → ℝ) (hw : ∀ i, i ∉ Set.range σ → w i = 0) :
    valueOf w x n = valueOf (w ∘ σ) (x ∘ σ) (n ∘ σ) := by
  have h1 : weightOf w = weightOf (w ∘ σ) := by
    rw [weightOf, weightOf, Fintype.sum_of_injective σ hσ (w ∘ σ) w hw fun _ => rfl]
  rw [valueOf, valueOf, h1,
    ← Fintype.sum_of_injective σ hσ (fun k => (w ∘ σ) k * fxOf (x ∘ σ) (n ∘ σ) k) (fun i => w i * fxOf x n i)
      (fun i hi => by rw [hw i hi, zero_mul]) fun _ => rfl]

theorem gradOf_restrict (w m : ι → ℝ) (x n : ι → Fin 3 → ℝ) (hw : ∀ i, i ∉ Set.range σ → w i = 0)
    (hm : ∀ i, i ∉ Set.range σ → m i = 0) (a : Fin 3) :
    gradOf w m x n a = gradOf (w ∘ σ) (m ∘ σ) (x ∘ σ) (n ∘ σ) a := by
  have h1 : weightOf w = weightOf (w ∘ σ) := by
    rw [weightOf, weightOf, Fintype.sum_of_injective σ hσ (w ∘ σ) w hw fun _ => rfl]
  rw [gradOf, gradOf, h1, valueOf_restrict σ hσ w x n hw,
    ← Fintype.sum_of_injective σ hσ (fun k => (m ∘ σ) k * (x ∘ σ) k a * fxOf (x ∘ σ) (n ∘ σ) k)
      (fun i => m i * x i a * fxOf x n i) (fun i hi => by rw [hm i hi, zero_mul, zero_mul]) fun _ => rfl,
    ← Fintype.sum_of_injective σ hσ (fun k => (m ∘ σ) k * (x ∘ σ) k a)
      (fun i => m i * x i a) (fun i hi => by rw [hm i hi, zero_mul]) fun _ => rfl,
    ← Fintype.sum_of_injective σ hσ (fun k => (w ∘ σ) k * (n ∘ σ) k a)
      (fun i => w i * n i a) (fun i hi => by rw [hw i hi, zero_mul]) fun _ => rfl]

variable (h : ℝ) (x n : ι → Fin 3 → ℝ) (hx : ∀ i, i ∉ Set.range σ → clip h x i = 0)
include hx

theorem f0_restrict : f0 h x n = f0 h (x ∘ σ) (n ∘ σ) :=
  valueOf_restrict σ hσ _ x n fun i hi => by rw [phiOf, hx i hi]; norm_num

theorem g0_restrict : g0 h x n = g0 h (x ∘ σ) (n ∘ σ) :=
  funext fun a => gradOf_restrict σ hσ _ _ x n (fun i hi => by rw [phiOf, hx i hi]; norm_num)
    (fun i hi => by rw [slopeOf, hx i hi]; norm_num) a

theorem alphaOf_restrict (k : κ) : alphaOf h x n (σ k) = alphaOf h (x ∘ σ) (n ∘ σ) k := by
  rw [alphaOf, alphaOf, f0_restrict σ hσ h x n hx, g0_restrict σ hσ h x n hx]; rfl

theorem f1_restrict : f1 h x n = f1 h (x ∘ σ) (n ∘ σ) := by
  rw [f1, valueOf_restrict σ hσ _ x n fun i hi => by rw [phiOf, hx i hi]; norm_num]
  congr 1; funext k
  rw [Function.comp_apply, alphaOf_restrict σ hσ h x n hx]; rfl

theorem g1_restrict (a : Fin 3) : g1 h x n a = g1 h (x ∘ σ) (n ∘ σ) a := by
  rw [g1, gradOf_restrict σ hσ _ _ x n (fun i hi => by rw [phiOf, hx i hi]; norm_num)
    (fun i hi => by rw [slopeOf, hx i hi]; norm_num)]
  congr 1 <;> (funext k; rw [Function.comp_apply, alphaOf_restrict σ hσ h x n hx]; rfl)

end restrict

theorem clip_eq_zero (h : ℝ) (hh : 0 < h) (x : ι → Fin 3 → ℝ) (i : ι) (hi : h ≤ √(lenSq x i)) : clip h x i = 0 := by
  refine max_eq_right (sub_nonpos.2 ((one_le_div (mul_pos hh hh)).2 ?_))
  have h0 : 0 ≤ lenSq x i := sum_nonneg fun a _ => mul_self_nonneg _
  calc h * h ≤ √(lenSq x i) * √(lenSq x i) := mul_le_mul hi hi hh.le (Real.sqrt_nonneg _)
    _ = _ := Real.mul_self_sqrt h0

end fit
end Rimls
-- ==== Proof.Words.lean ====
/- Extended reals that are real: the literals of the programs, and how the operations act on them. -/
module
public import Idealize.ShloMosaic.Lib.Pointwise
public import Idealize.ShloMosaic.Lib.IdealHost
public import Mathlib.Order.Interval.Finset.Fin
public import proofs.«01_k».proof.Proof.RealMath
@[expose] public section
noncomputable section
namespace Rimls
open Idealize.ShloMosaic Finset

theorem word_two : Ideal.ofBits .f32 0x40000000#32 = ((2 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num
theorem word_256 : Ideal.ofBits .f32 0x43800000#32 = ((256 : ℝ) : EReal) := by
  simp [Ideal.ofBits, Ideal.ieee, -EReal.coe_mul]; norm_num
theorem word_inv256 : Ideal.ofBits .f32 0x3B800000#32 = ((1 / 256 : ℝ) : EReal) := by
  simp [Ideal.ofBits, Ideal.ieee, -EReal.coe_mul]; norm_num
theorem word_eps : Ideal.ofBits .f32 0x322BCC77#32 = ((eps : ℝ) : EReal) := by
  simp [Ideal.ofBits, Ideal.ieee, -EReal.coe_mul, eps]; norm_num
theorem word_one : Ideal.ofBits .f32 0x3F800000#32 = ((1 : ℝ) : EReal) := by
  simp [Ideal.ofBits, Ideal.ieee, -EReal.coe_mul]; norm_num
theorem word_neg8 : Ideal.ofBits .f32 0xC1000000#32 = ((-8 : ℝ) : EReal) := by
  simp [Ideal.ofBits, Ideal.ieee, -EReal.coe_mul]; norm_num
theorem word_neg4 : Ideal.ofBits .f32 0xC0800000#32 = ((-4 : ℝ) : EReal) := by
  simp [Ideal.ofBits, Ideal.ieee, -EReal.coe_mul]; norm_num
theorem word_sigma : Ideal.ofBits .f32 0x3F23D70A#32 = ((sigmaSq : ℝ) : EReal) := by
  simp [Ideal.ofBits, Ideal.ieee, -EReal.coe_mul, sigmaSq]; norm_num
theorem word_512 : Ideal.ofBits .f32 0x44000000#32 = ((512 : ℝ) : EReal) := by
  simp [Ideal.ofBits, Ideal.ieee, -EReal.coe_mul]; norm_num
theorem word_128 : Ideal.ofBits .f32 0x43000000#32 = ((128 : ℝ) : EReal) := by
  simp [Ideal.ofBits, Ideal.ieee, -EReal.coe_mul]; norm_num
theorem word_bot : Ideal.ofBits .f32 0xFF800000#32 = ⊥ := by
  simp [Ideal.ofBits, Ideal.ieee]
theorem word_top : Ideal.ofBits .f32 0x7F800000#32 = ⊤ := by
  simp [Ideal.ofBits, Ideal.ieee]

theorem max_real (a b : ℝ) : max (a : EReal) b = ((max a b : ℝ) : EReal) :=
  (EReal.coe_strictMono.monotone.map_max (a := a) (b := b)).symm

theorem sum_real {ι : Type*} (s : Finset ι) (f : ι → ℝ) : ∑ i ∈ s, (f i : EReal) = ((∑ i ∈ s, f i : ℝ) : EReal) := by
  classical
  induction s using Finset.induction_on with
  | empty => simp
  | insert a s ha ih => rw [sum_insert ha, sum_insert ha, ih, EReal.coe_add]

theorem div_real (a b : ℝ) (hb : b ≠ 0) : Ideal.div (a : EReal) (b : EReal) = ((a / b : ℝ) : EReal) := by
  rw [Ideal.div_coe hb, ← EReal.coe_mul]; congr 1; ring

theorem sqrt_real (a : ℝ) (ha : 0 ≤ a) : Ideal.sqrt (a : EReal) = ((√a : ℝ) : EReal) := by
  show (if a < 0 then ⊥ else ((√a : ℝ) : EReal)) = _
  rw [if_neg (not_lt.2 ha)]

theorem exp_real (a : ℝ) : Ideal.exp (a : EReal) = ((Real.exp a : ℝ) : EReal) := rfl

/-- A comparison's bit, widened and made a float: 1 or 0. -/
theorem bit_real (p : Prop) [Decidable p] :
    FloatOps.sitofp (F := Ideal) .f32 (BitVec.setWidth 32 (BitVec.ofBool (decide p))) = (((if p then 1 else 0 : ℝ)) : EReal) := by
  by_cases h : p <;> simp [h, FloatOps.sitofp]

theorem bits_count {n : ℕ} (d : Fin n → ℝ) (x : ℝ) :
    ∑ i, (if d i ≤ x then (1 : ℝ) else 0) = (#{i | d i ≤ x} : ℝ) := by
  rw [← Finset.sum_filter]; simp

/-- The largest of a nonempty row, from −∞. -/
theorem fold_max_real {n : ℕ} (h : (univ : Finset (Fin n)).Nonempty) (f : Fin n → ℝ) :
    Finset.fold max ⊥ (fun i => (f i : EReal)) univ = ((univ.sup' h f : ℝ) : EReal) := by
  have h1 : Finset.fold max ⊥ (fun i => (f i : EReal)) univ = univ.sup fun i => (f i : EReal) := rfl
  rw [h1, ← Finset.sup'_eq_sup h]
  exact (Finset.comp_sup'_eq_sup'_comp h (fun x : ℝ => (x : EReal)) fun a b => (max_real a b).symm).symm

/-- A value whose magnitude is below the infinite word is real. -/
theorem real_of_bit (x : EReal)
    (h : BitVec.ofBool (decide (max x (-x) < Ideal.ofBits .f32 0x7F800000#32)) = 1#1) : x = (x.toReal : EReal) := by
  have hx : max x (-x) < ⊤ := by
    by_contra hc
    rw [word_top, decide_eq_false hc] at h
    exact absurd h (by decide)
  refine (EReal.coe_toReal (fun e => ?_) fun e => ?_).symm
  · rw [e] at hx; exact absurd hx (by simp)
  · rw [e] at hx; exact absurd hx (by simp)

/-- A comparison's bit that is set says the comparison. -/
theorem le_of_bit (a b : ℝ) (h : BitVec.ofBool (decide ((a : EReal) ≤ (b : EReal))) = 1#1) : a ≤ b := by
  by_contra hc
  rw [decide_eq_false (fun h' => hc (EReal.coe_le_coe_iff.1 h'))] at h
  exact absurd h (by decide)

theorem pos_of_bit (a : ℝ) (h : BitVec.ofBool (decide ((0 : EReal) < (a : EReal))) = 1#1) : 0 < a := by
  by_contra hc
  rw [decide_eq_false (fun h' => hc (EReal.coe_pos.1 h'))] at h
  exact absurd h (by decide)

end Rimls
-- ==== Proof.KernelRow.lean ====
/- One query's row of the kernel's block, on real arguments: the squared distances, the two bisections, the bandwidth,
   and what both passes read. -/
module
public import proofs.«01_k».proof.Proof.KernelForm
public import proofs.«01_k».proof.Proof.Words
@[expose] public section
set_option maxRecDepth 16384
noncomputable section
namespace Cert.KernelIdeal.Form
open Cert.KernelIdeal Cert.KernelIdeal.Gen
open Idealize.ShloMosaic Rimls Finset

/-- Row `r` of a block holds the reals `Q` (the query), `V` (the vertices), `M` (the normals as given). -/
structure Tile (x0 : Vec Ideal S128x3 .f32) (x1 x2 : Vec Ideal S3x16384 .f32) (r : Fin 128) (Q : Fin 3 → ℝ)
    (V M : Fin 16384 → Fin 3 → ℝ) : Prop where
  q : ∀ a, x0 (ix2 r a) = (Q a : EReal)
  v : ∀ a j, x1 (ix2 a j) = (V j a : EReal)
  m : ∀ a j, x2 (ix2 a j) = (M j a : EReal)

/-- The offsets from the points to the query. -/
def off {n : ℕ} (Q : Fin 3 → ℝ) (V : Fin n → Fin 3 → ℝ) (j : Fin n) (a : Fin 3) : ℝ := Q a - V j a
/-- The normals at unit length. -/
def unit {n : ℕ} (M : Fin n → Fin 3 → ℝ) (j : Fin n) (a : Fin 3) : ℝ := M j a / max (√(∑ b, M j b * M j b)) eps

theorem unit_den_ne {n : ℕ} (M : Fin n → Fin 3 → ℝ) (j : Fin n) : max (√(∑ b, M j b * M j b)) eps ≠ 0 :=
  (lt_max_of_lt_right eps_pos).ne'

section
variable {x0 : Vec Ideal S128x3 .f32} {x1 x2 : Vec Ideal S3x16384 .f32} {r : Fin 128} {Q : Fin 3 → ℝ}
  {V M : Fin 16384 → Fin 3 → ℝ} (T : Tile x0 x1 x2 r Q V M)
include T

theorem d2_real (j : Fin 16384) : d2 x0 x1 (ix2 r j) = ((lenSq (off Q V) j : ℝ) : EReal) := by
  unfold d2
  unfold_payloads
  pointwise []
  simp only [Fin.sum_univ_three, T.q, T.v, word_two, ← EReal.coe_mul, ← EReal.coe_add, ← EReal.coe_sub]
  rw [← EReal.coe_zero, max_real]
  have h : Q 0 * Q 0 + Q 1 * Q 1 + Q 2 * Q 2 + (V j 0 * V j 0 + V j 1 * V j 1 + V j 2 * V j 2) -
      2 * (Q 0 * V j 0 + Q 1 * V j 1 + Q 2 * V j 2) = lenSq (off Q V) j := by
    simp only [lenSq, off, Fin.sum_univ_three]; ring
  rw [h, max_eq_left]
  exact sum_nonneg fun a _ => mul_self_nonneg _

theorem n_real (a : Fin 3) (j : Fin 16384) : (data x0 x1 x2).n a (ix2 0 j) = ((unit M j a : ℝ) : EReal) := by
  have hs : 0 ≤ M j 0 * M j 0 + M j 1 * M j 1 + M j 2 * M j 2 :=
    add_nonneg (add_nonneg (mul_self_nonneg _) (mul_self_nonneg _)) (mul_self_nonneg _)
  have hd := unit_den_ne M j
  simp only [Fin.sum_univ_three] at hd
  fin_cases a
  · show k0_pay9 x2 (ix2 0 j) = _
    unfold_payloads
    pointwise []
    simp only [Fin.sum_univ_three, T.m, word_eps, ← EReal.coe_mul, ← EReal.coe_add, sqrt_real _ hs, max_real, div_real _ _ hd, unit]
  · show k0_pay10 x2 (ix2 0 j) = _
    unfold_payloads
    pointwise []
    simp only [Fin.sum_univ_three, T.m, word_eps, ← EReal.coe_mul, ← EReal.coe_add, sqrt_real _ hs, max_real, div_real _ _ hd, unit]
  · show k0_pay11 x2 (ix2 0 j) = _
    unfold_payloads
    pointwise []
    simp only [Fin.sum_univ_three, T.m, word_eps, ← EReal.coe_mul, ← EReal.coe_add, sqrt_real _ hs, max_real, div_real _ _ hd, unit]

theorem q_real (a : Fin 3) : (data x0 x1 x2).q a (ix2 r 0) = (Q a : EReal) := by
  fin_cases a
  · show k0_pay3 x0 (ix2 r 0) = _
    unfold_payloads; pointwise []; exact T.q 0
  · show k0_pay4 x0 (ix2 r 0) = _
    unfold_payloads; pointwise []; exact T.q 1
  · show k0_pay5 x0 (ix2 r 0) = _
    unfold_payloads; pointwise []; exact T.q 2

theorem p_real (a : Fin 3) (j : Fin 16384) : (data x0 x1 x2).p a (ix2 0 j) = (V j a : EReal) := by
  fin_cases a
  · show k0_pay6 x1 (ix2 0 j) = _
    unfold_payloads; pointwise []; exact T.v 0 j
  · show k0_pay7 x1 (ix2 0 j) = _
    unfold_payloads; pointwise []; exact T.v 1 j
  · show k0_pay8 x1 (ix2 0 j) = _
    unfold_payloads; pointwise []; exact T.v 2 j

theorem nn_real (j : Fin 16384) : (data x0 x1 x2).nn (ix2 0 j) = ((∑ a, unit M j a * unit M j a : ℝ) : EReal) := by
  have h0 : k0_pay9 x2 (ix2 0 j) = _ := n_real T 0 j
  have h1 : k0_pay10 x2 (ix2 0 j) = _ := n_real T 1 j
  have h2 : k0_pay11 x2 (ix2 0 j) = _ := n_real T 2 j
  show k0_pay12 x2 (ix2 0 j) = _
  unfold k0_pay12
  pointwise [h0, h1, h2]
  simp only [Fin.sum_univ_three, ← EReal.coe_mul, ← EReal.coe_add]

theorem fx_real (j : Fin 16384) : (data x0 x1 x2).fx (ix2 r j) = ((fxOf (off Q V) (unit M) j : ℝ) : EReal) := by
  have hs : 0 ≤ M j 0 * M j 0 + M j 1 * M j 1 + M j 2 * M j 2 :=
    add_nonneg (add_nonneg (mul_self_nonneg _) (mul_self_nonneg _)) (mul_self_nonneg _)
  have hd := unit_den_ne M j
  simp only [Fin.sum_univ_three] at hd
  show k0_pay37 _ _ _ _ _ _ _ (ix2 r j) = _
  unfold_payloads
  pointwise []
  simp only [Fin.sum_univ_three, T.q, T.v, T.m, word_eps, ← EReal.coe_mul, ← EReal.coe_add, ← EReal.coe_sub, sqrt_real _ hs,
    max_real, div_real _ _ hd]
  congr 1
  simp only [fxOf, off, unit, Fin.sum_univ_three]; ring

theorem tt_real (h : ℝ) (hh : h ≠ 0) (hi : ihOf x0 x1 (ix2 r 0) = ((1 / (h * h) : ℝ) : EReal)) (j : Fin 16384) :
    (data x0 x1 x2).tt (ix2 r j) = ((clip h (off Q V) j : ℝ) : EReal) := by
  show k0_pay38 _ _ _ _ _ _ _ _ _ (ix2 r j) = _
  unfold_payloads
  pointwise [hi]
  simp only [T.q, T.v, word_two, ← EReal.coe_one, ← EReal.coe_mul, ← EReal.coe_add, ← EReal.coe_sub]
  rw [← EReal.coe_zero, max_real]
  refine congrArg Real.toEReal ?_
  simp only [clip, lenSq, off, Fin.sum_univ_three]
  refine congrArg (fun z : ℝ => max (1 - z) 0) ?_
  field_simp
  ring

end
end Cert.KernelIdeal.Form
-- ==== Proof.KernelBand.lean ====
/- The kernel's bandwidth: both bisections on real squared distances, and the mean distance they give. -/
module
public import proofs.«01_k».proof.Proof.KernelRow
@[expose] public section
set_option maxRecDepth 16384
noncomputable section
namespace Cert.KernelIdeal.Form
open Cert.KernelIdeal Cert.KernelIdeal.Gen
open Idealize.ShloMosaic Rimls Finset

/-- The first 2048 of a row. -/
def head (D : Fin 16384 → ℝ) (i : Fin 2048) : ℝ := D ⟨i.val, by omega⟩
theorem univ_head : (univ : Finset (Fin 2048)).Nonempty := ⟨0, mem_univ _⟩
/-- The largest of them. -/
def top (D : Fin 16384 → ℝ) : ℝ := univ.sup' univ_head (head D)

theorem fold_same {σ : Type} {n : ℕ} (g : σ → σ) (s : σ) : Scf.fold (n := n) (fun _ s => g s) s = g^[n] s := by
  rw [Scf.fold_eq, List.foldl_const, List.length_finRange]

theorem iter_real (j : S128x1.Idx) (a : ℝ) (g : Col Ideal × Col Ideal → Col Ideal × Col Ideal)
    (hg : ∀ s p, s.1 j = ((p : ℝ × ℝ).1 : EReal) → s.2 j = (p.2 : EReal) →
      (g s).1 j = ((halve a p).1 : EReal) ∧ (g s).2 j = ((halve a p).2 : EReal))
    (s t : Col Ideal) (p q : ℝ) (h1 : s j = (p : EReal)) (h2 : t j = (q : EReal)) (n : ℕ) :
    (g^[n] (s, t)).1 j = (((halve a)^[n] (p, q)).1 : EReal) ∧ (g^[n] (s, t)).2 j = (((halve a)^[n] (p, q)).2 : EReal) := by
  induction n with
  | zero => exact ⟨h1, h2⟩
  | succ n ih =>
    simp only [Function.iterate_succ_apply']
    exact hg _ _ ih.1 ih.2

/-- The kernel's bandwidth from its squared radius. -/
def bandOf (D : Fin 16384 → ℝ) (t : ℝ) : ℝ := (256 * √t - ∑ i, max (√t - √(D i)) 0) / 256 + eps

section
variable {x0 : Vec Ideal S128x3 .f32} {x1 : Vec Ideal S3x16384 .f32} {r : Fin 128} {D : Fin 16384 → ℝ}
  (hD : ∀ j, d2 x0 x1 (ix2 r j) = (D j : EReal))
include hD

theorem step1_real (s : Col Ideal × Col Ideal) (p : ℝ × ℝ) (h1 : s.1 (ix2 r 0) = (p.1 : EReal)) (h2 : s.2 (ix2 r 0) = (p.2 : EReal))
    (a : ℝ) (ha : ∀ x, 256 ≤ #{i | head D i ≤ x} ↔ a ≤ x) :
    k0_pay25 (k0_pay16 x0 x1) (k0_pay17 x0 x1) k0_pay18 s.1 s.2 (ix2 r 0) = ((halve a p).1 : EReal) ∧
    k0_pay26 (k0_pay16 x0 x1) (k0_pay17 x0 x1) k0_pay18 s.1 s.2 (ix2 r 0) = ((halve a p).2 : EReal) := by
  have hd : ∀ j, k0_pay19 (k0_pay16 x0 x1) (k0_pay17 x0 x1) k0_pay18 (ix2 r j) = (D j : EReal) := hD
  have hb : ∀ m : ℝ, ((256 : ℝ) ≤ ∑ i, if head D i ≤ m then (1 : ℝ) else 0) ↔ a ≤ m := by
    intro m
    rw [bits_count, ← ha m]; exact_mod_cast Iff.rfl
  have hb' : ∀ m : ℝ, ((256 : ℝ) ≤ ∑ i : Fin 2048, if D ⟨i.val, by omega⟩ ≤ m then (1 : ℝ) else 0) ↔ a ≤ m := hb
  constructor
  · unfold k0_pay25 k0_pay24 k0_pay23 k0_pay20
    pointwise [hd, h1, h2]
    simp only [word_half, word_256, ← EReal.coe_mul, ← EReal.coe_add, EReal.coe_le_coe_iff, bit_real, sum_real, hb', halve]
    split_ifs with hc <;> simp [hc, Scalar.select]
  · unfold k0_pay26 k0_pay24 k0_pay23 k0_pay20
    pointwise [hd, h1, h2]
    simp only [word_half, word_256, ← EReal.coe_mul, ← EReal.coe_add, EReal.coe_le_coe_iff, bit_real, sum_real, hb', halve]
    split_ifs with hc <;> simp [hc, Scalar.select]

theorem step2_real (s : Col Ideal × Col Ideal) (p : ℝ × ℝ) (h1 : s.1 (ix2 r 0) = (p.1 : EReal)) (h2 : s.2 (ix2 r 0) = (p.2 : EReal))
    (a : ℝ) (ha : ∀ x, 256 ≤ #{i | D i ≤ x} ↔ a ≤ x) :
    k0_pay30 (k0_pay16 x0 x1) (k0_pay17 x0 x1) k0_pay18 s.1 s.2 (ix2 r 0) = ((halve a p).1 : EReal) ∧
    k0_pay31 (k0_pay16 x0 x1) (k0_pay17 x0 x1) k0_pay18 s.1 s.2 (ix2 r 0) = ((halve a p).2 : EReal) := by
  have hd : ∀ j, k0_pay19 (k0_pay16 x0 x1) (k0_pay17 x0 x1) k0_pay18 (ix2 r j) = (D j : EReal) := hD
  have hb : ∀ m : ℝ, ((256 : ℝ) ≤ ∑ i, if D i ≤ m then (1 : ℝ) else 0) ↔ a ≤ m := by
    intro m
    rw [bits_count, ← ha m]; exact_mod_cast Iff.rfl
  constructor
  · unfold k0_pay30 k0_pay29 k0_pay28
    pointwise [hd, h1, h2]
    simp only [word_half, word_256, ← EReal.coe_mul, ← EReal.coe_add, EReal.coe_le_coe_iff, bit_real, sum_real, hb, halve]
    split_ifs with hc <;> simp [hc, Scalar.select]
  · unfold k0_pay31 k0_pay29 k0_pay28
    pointwise [hd, h1, h2]
    simp only [word_half, word_256, ← EReal.coe_mul, ← EReal.coe_add, EReal.coe_le_coe_iff, bit_real, sum_real, hb, halve]
    split_ifs with hc <;> simp [hc, Scalar.select]

theorem bis1_real (a : ℝ) (ha : ∀ x, 256 ≤ #{i | head D i ≤ x} ↔ a ≤ x) :
    (bis1 x0 x1).2 (ix2 r 0) = (((halve a)^[9] (0, top D)).2 : EReal) := by
  have hd : ∀ j, k0_pay19 (k0_pay16 x0 x1) (k0_pay17 x0 x1) k0_pay18 (ix2 r j) = (D j : EReal) := hD
  unfold bis1
  rw [show k0_t1_loop.trips = 9 from rfl, fold_same (fun s : Col Ideal × Col Ideal =>
    (k0_pay25 (k0_pay16 x0 x1) (k0_pay17 x0 x1) k0_pay18 s.1 s.2,
      k0_pay26 (k0_pay16 x0 x1) (k0_pay17 x0 x1) k0_pay18 s.1 s.2))]
  have e1 : (k0_pay22 : Col Ideal) (ix2 r 0) = ((0 : ℝ) : EReal) := by
    unfold_payloads; pointwise []; rfl
  have e2 : k0_pay21 (k0_pay16 x0 x1) (k0_pay17 x0 x1) k0_pay18 (ix2 r 0) = ((top D : ℝ) : EReal) := by
    unfold k0_pay21 k0_pay20
    pointwise [hd]
    rw [word_bot, top]
    exact fold_max_real univ_head (head D)
  exact (iter_real (ix2 r 0) a _ (fun s p h1 h2 => step1_real hD s p h1 h2 a ha) _ _ _ _ e1 e2 9).2

theorem bis2_real (a a' : ℝ) (ha : ∀ x, 256 ≤ #{i | head D i ≤ x} ↔ a ≤ x) (ha' : ∀ x, 256 ≤ #{i | D i ≤ x} ↔ a' ≤ x) :
    (bis2 x0 x1).2 (ix2 r 0) = (((halve a')^[7] (0, ((halve a)^[9] (0, top D)).2)).2 : EReal) := by
  unfold bis2
  rw [show k0_t2_loop.trips = 7 from rfl, fold_same (fun s : Col Ideal × Col Ideal =>
    (k0_pay30 (k0_pay16 x0 x1) (k0_pay17 x0 x1) k0_pay18 s.1 s.2,
      k0_pay31 (k0_pay16 x0 x1) (k0_pay17 x0 x1) k0_pay18 s.1 s.2))]
  have e1 : (k0_pay27 : Col Ideal) (ix2 r 0) = ((0 : ℝ) : EReal) := by
    unfold_payloads; pointwise []; rfl
  have hstep : ∀ (s : Col Ideal × Col Ideal) (p : ℝ × ℝ), s.1 (ix2 r 0) = (p.1 : EReal) → s.2 (ix2 r 0) = (p.2 : EReal) →
      (k0_pay30 (k0_pay16 x0 x1) (k0_pay17 x0 x1) k0_pay18 s.1 s.2) (ix2 r 0) = ((halve a' p).1 : EReal) ∧
      (k0_pay31 (k0_pay16 x0 x1) (k0_pay17 x0 x1) k0_pay18 s.1 s.2) (ix2 r 0) = ((halve a' p).2 : EReal) :=
    fun s p h1 h2 => step2_real hD s p h1 h2 a' ha'
  have key : ∀ (B : Col Ideal) (H : ℝ), B (ix2 r 0) = (H : EReal) →
      ((fun s : Col Ideal × Col Ideal => (k0_pay30 (k0_pay16 x0 x1) (k0_pay17 x0 x1) k0_pay18 s.1 s.2,
        k0_pay31 (k0_pay16 x0 x1) (k0_pay17 x0 x1) k0_pay18 s.1 s.2))^[7] (k0_pay27, B)).2 (ix2 r 0)
        = (((halve a')^[7] (0, H)).2 : EReal) := by
    intro B H e2
    refine (iter_real (ix2 r 0) a' (fun s : Col Ideal × Col Ideal => (k0_pay30 (k0_pay16 x0 x1) (k0_pay17 x0 x1) k0_pay18 s.1 s.2,
        k0_pay31 (k0_pay16 x0 x1) (k0_pay17 x0 x1) k0_pay18 s.1 s.2)) ?_ k0_pay27 B 0 H ?_ ?_ 7).2
    · intro s p h1 h2; dsimp only; exact hstep s p h1 h2
    · exact e1
    · exact e2
  exact key _ _ (bis1_real hD a ha)

variable (hD0 : ∀ j, 0 ≤ D j) {t : ℝ} (ht : 0 ≤ t) {z : Col Ideal} (hz : z (ix2 r 0) = (t : EReal))
include hD0 ht hz

theorem band_real : k0_pay32 (k0_pay16 x0 x1) (k0_pay17 x0 x1) k0_pay18 z (ix2 r 0) = ((bandOf D t : ℝ) : EReal) := by
  have hd : ∀ j, k0_pay19 (k0_pay16 x0 x1) (k0_pay17 x0 x1) k0_pay18 (ix2 r j) = (D j : EReal) := hD
  unfold k0_pay32
  pointwise [hd, hz]
  have hsel : ∀ i : Fin 16384, (if D i < t then Ideal.sqrt (D i : EReal) else 0)
      = ((if D i < t then √(D i) else 0 : ℝ) : EReal) := by
    intro i
    rw [sqrt_real _ (hD0 i)]
    split_ifs <;> rfl
  simp only [word_256, word_inv256, word_eps, EReal.coe_lt_coe_iff, bit_real, sum_real, hsel, sqrt_real _ ht,
    ← EReal.coe_mul, ← EReal.coe_add, ← EReal.coe_sub]
  refine congrArg Real.toEReal ?_
  rw [below_sum, bandOf]; ring

theorem ih_real (hb : bandOf D t ≠ 0) :
    k0_pay33 (k0_pay16 x0 x1) (k0_pay17 x0 x1) k0_pay18 z (ix2 r 0) = ((1 / (bandOf D t * bandOf D t) : ℝ) : EReal) := by
  have h := band_real hD hD0 ht hz
  unfold k0_pay33
  pointwise [h]
  rw [← EReal.coe_one, ← EReal.coe_mul, div_real _ _ (mul_ne_zero hb hb)]

theorem isr_real (hb : 0 < bandOf D t) :
    k0_pay36 (k0_pay34 (k0_pay16 x0 x1) (k0_pay17 x0 x1) k0_pay18 z) k0_pay35 (ix2 r 0)
      = ((1 / (1 / 2 * bandOf D t + eps) : ℝ) : EReal) := by
  have h := band_real hD hD0 ht hz
  have h0 : 1 / 2 * bandOf D t + eps ≠ 0 := (by have := eps_pos; positivity)
  unfold k0_pay36 k0_pay34 k0_pay35
  pointwise [h]
  rw [word_half, word_eps, ← EReal.coe_one, ← EReal.coe_mul, ← EReal.coe_add, div_real _ _ h0]

end
end Cert.KernelIdeal.Form
-- ==== Proof.KernelFit.lean ====
/- Both passes of the kernel's fit on real arguments: the chunked sums are sums over all points, and each pass is the
   fit of that pass's weights. -/
module
public import proofs.«01_k».proof.Proof.KernelBand
@[expose] public section
set_option maxRecDepth 16384
noncomputable section
namespace Cert.KernelIdeal.Form
open Cert.KernelIdeal Cert.KernelIdeal.Gen
open Idealize.ShloMosaic Rimls Finset

/-- The point a place of a chunk stands for. -/
def Chunk.at (k : Chunk) (j : Fin 2048) : Fin 16384 := ⟨k.o + j.val, by have := k.le; omega⟩

theorem spread_apply (v : Col Ideal) (r : Fin 128) (j : Fin 2048) : spread v (ix2 r j) = v (ix2 r 0) := by
  pointwise [spread]
theorem down_apply (k : Chunk) (v : Row Ideal) (r : Fin 128) (j : Fin 2048) : down k v (ix2 r j) = v (ix2 0 (k.at j)) := by
  pointwise [down, rowOf]; rfl
theorem cut_apply (k : Chunk) (v : Full Ideal) (r : Fin 128) (j : Fin 2048) : cut k v (ix2 r j) = v (ix2 r (k.at j)) := by
  pointwise [cut]; rfl
theorem rowSum_apply (v : Part Ideal) (r : Fin 128) : rowSum v (ix2 r 0) = ∑ j, v (ix2 r j) := by
  pointwise [rowSum]
theorem fill_apply (b : BitVec 32) (r : Fin 128) : (fill b : Col Ideal) (ix2 r 0) = Ideal.ofBits .f32 b := by
  pointwise [fill]
theorem fillP_apply (b : BitVec 32) (r : Fin 128) (j : Fin 2048) : (fillP b : Part Ideal) (ix2 r j) = Ideal.ofBits .f32 b := by
  pointwise [fillP]

/-- A sum over all points, chunk by chunk. -/
theorem sum_chunks (G : Fin 16384 → ℝ) :
    ∑ i, G i = ∑ j, G (ch0.at j) + ∑ j, G (ch1.at j) + ∑ j, G (ch2.at j) + ∑ j, G (ch3.at j) + ∑ j, G (ch4.at j)
      + ∑ j, G (ch5.at j) + ∑ j, G (ch6.at j) + ∑ j, G (ch7.at j) := by
  have e : ∑ i, G i = ∑ a : Fin 8, ∑ b : Fin 2048, G (finProdFinEquiv (a, b)) := by
    rw [← Fintype.sum_prod_type (fun ab : Fin 8 × Fin 2048 => G (finProdFinEquiv ab))]
    exact (Equiv.sum_comp (finProdFinEquiv : Fin 8 × Fin 2048 ≃ Fin 16384) G).symm
  rw [e, Fin.sum_univ_eight]
  have key : ∀ (a : Fin 8) (k : Chunk), k.o = 2048 * a.val → ∀ b : Fin 2048, (finProdFinEquiv (a, b) : Fin 16384) = k.at b := by
    intro a k hk b
    apply Fin.ext
    show b.val + 2048 * a.val = k.o + b.val
    omega
  simp only [key 0 ch0 rfl, key 1 ch1 rfl, key 2 ch2 rfl, key 3 ch3 rfl, key 4 ch4 rfl, key 5 ch5 rfl, key 6 ch6 rfl, key 7 ch7 rfl]

theorem total_real {r : Fin 128} {g : Chunk → Part Ideal} {G : Fin 16384 → ℝ}
    (h : ∀ k j, g k (ix2 r j) = (G (k.at j) : EReal)) : total g (ix2 r 0) = ((∑ i, G i : ℝ) : EReal) := by
  pointwise [total, rowSum_apply, fill_apply, h]
  simp only [sum_real, ← EReal.coe_add]
  rw [sum_chunks]

/-- What both passes read, on real arguments. -/
structure Reads (D : Data Ideal) (r : Fin 128) (x n : Fin 16384 → Fin 3 → ℝ) (h : ℝ) : Prop where
  diff : ∀ a k j, D.diff a k (ix2 r j) = (x (k.at j) a : EReal)
  nr : ∀ a j, D.n a (ix2 0 j) = (n j a : EReal)
  nn : ∀ j, D.nn (ix2 0 j) = ((∑ a, n j a * n j a : ℝ) : EReal)
  ih : D.ih (ix2 r 0) = ((1 / (h * h) : ℝ) : EReal)
  isr : D.isr (ix2 r 0) = ((1 / (1 / 2 * h + eps) : ℝ) : EReal)
  fx : ∀ j, D.fx (ix2 r j) = ((fxOf x n j : ℝ) : EReal)
  tt : ∀ j, D.tt (ix2 r j) = ((clip h x j : ℝ) : EReal)

section
variable {D : Data Ideal} {r : Fin 128} {x n : Fin 16384 → Fin 3 → ℝ} {h : ℝ} (R : Reads D r x n h)
include R

theorem phi_real (k : Chunk) (j : Fin 2048) : D.phi k (ix2 r j) = ((phiOf h x (k.at j) : ℝ) : EReal) := by
  pointwise [Data.phi, Data.sq, cut_apply, R.tt]
  simp only [← EReal.coe_mul]
  refine congrArg Real.toEReal ?_
  rw [phiOf]; ring

theorem slope_real (k : Chunk) (j : Fin 2048) : D.slope k (ix2 r j) = ((slopeOf h x (k.at j) : ℝ) : EReal) := by
  pointwise [Data.slope, Data.sq, cut_apply, spread_apply, fill_apply, R.tt, R.ih]
  simp only [word_neg8, ← EReal.coe_mul]
  refine congrArg Real.toEReal ?_
  rw [slopeOf]; ring

section pass
variable {w m : Chunk → Part Ideal} {W M : Fin 16384 → ℝ} (hw : ∀ k j, w k (ix2 r j) = (W (k.at j) : EReal))
  (hm : ∀ k j, m k (ix2 r j) = (M (k.at j) : EReal)) (hW : weightOf W ≠ 0)

omit R in
include hw in
theorem weight_real : Data.weight w (ix2 r 0) = ((weightOf W : ℝ) : EReal) := by
  pointwise [Data.weight, fill_apply, total_real hw]
  simp only [word_eps, ← EReal.coe_add]; rfl

include hw hW in
theorem value_real : D.value w (ix2 r 0) = ((valueOf W x n : ℝ) : EReal) := by
  have h1 : total (fun k => mulf (w k) (cut k D.fx)) (ix2 r 0) = ((∑ i, W i * fxOf x n i : ℝ) : EReal) :=
    total_real (G := fun i => W i * fxOf x n i) fun k j => by
      pointwise [cut_apply, hw, R.fx]
      rw [← EReal.coe_mul]
  pointwise [Data.value, weight_real hw, h1]
  rw [div_real _ _ hW]; rfl

include hw hm hW in
theorem grad_real (a : Fin 3) : D.grad w m a (ix2 r 0) = ((gradOf W M x n a : ℝ) : EReal) := by
  have h1 : total (fun k => mulf (mulf (m k) (D.diff a k)) (cut k D.fx)) (ix2 r 0)
      = ((∑ i, M i * x i a * fxOf x n i : ℝ) : EReal) :=
    total_real (G := fun i => M i * x i a * fxOf x n i) fun k j => by
      pointwise [cut_apply, hm, R.fx, R.diff]
      rw [← EReal.coe_mul, ← EReal.coe_mul]
  have h2 : total (fun k => mulf (m k) (D.diff a k)) (ix2 r 0) = ((∑ i, M i * x i a : ℝ) : EReal) :=
    total_real (G := fun i => M i * x i a) fun k j => by
      pointwise [hm, R.diff]
      rw [← EReal.coe_mul]
  have h3 : total (fun k => mulf (w k) (down k (D.n a))) (ix2 r 0) = ((∑ i, W i * n i a : ℝ) : EReal) :=
    total_real (G := fun i => W i * n i a) fun k j => by
      pointwise [hw, down_apply, R.nr]
      rw [← EReal.coe_mul]
  pointwise [Data.grad, weight_real hw, value_real R hw hW, h1, h2, h3]
  rw [← EReal.coe_mul, ← EReal.coe_sub, ← EReal.coe_add, div_real _ _ hW]; rfl

end pass

theorem f0_real : D.f0 (ix2 r 0) = ((f0 h x n : ℝ) : EReal) :=
  value_real R (phi_real R) (weightOf_pos fun i => phiOf_nonneg h x i).ne'

theorem g0_real (a : Fin 3) : D.g0 a (ix2 r 0) = ((g0 h x n a : ℝ) : EReal) :=
  grad_real R (phi_real R) (slope_real R) (weightOf_pos fun i => phiOf_nonneg h x i).ne' a

theorem rate_real (i : S128x2048.Idx) : rate (F := Ideal) i = ((8388608 / 5368709 : ℝ) : EReal) := rfl

theorem alpha_real (k : Chunk) (j : Fin 2048) : D.alpha k (ix2 r j) = ((alphaOf h x n (k.at j) : ℝ) : EReal) := by
  pointwise [Data.alpha, Data.resid, Data.ng, Data.gg, cut_apply, down_apply, spread_apply, fillP_apply, R.fx, R.nr, R.nn, R.isr,
    f0_real R, g0_real R]
  simp only [word_two, rate_real, ← EReal.coe_zero, ← EReal.coe_mul, ← EReal.coe_add, ← EReal.coe_sub, exp_real]
  refine congrArg Real.toEReal (congrArg Real.exp ?_)
  simp only [Fin.sum_univ_three]
  rw [div_eq_mul_one_div (_ - _), sigmaSq]
  ring

theorem w1_nonneg (i : Fin 16384) : 0 ≤ alphaOf h x n i * phiOf h x i :=
  mul_nonneg (alphaOf_pos h x n i).le (phiOf_nonneg h x i)

theorem w1_real (k : Chunk) (j : Fin 2048) :
    D.w1 k (ix2 r j) = ((alphaOf h x n (k.at j) * phiOf h x (k.at j) : ℝ) : EReal) := by
  pointwise [Data.w1, alpha_real R, phi_real R]
  rw [← EReal.coe_mul]

theorem m1_real (k : Chunk) (j : Fin 2048) :
    D.m1 k (ix2 r j) = ((alphaOf h x n (k.at j) * slopeOf h x (k.at j) : ℝ) : EReal) := by
  pointwise [Data.m1, alpha_real R, slope_real R]
  rw [← EReal.coe_mul]

theorem f1_real : D.f1 (ix2 r 0) = ((f1 h x n : ℝ) : EReal) :=
  value_real R (W := fun i => alphaOf h x n i * phiOf h x i) (w1_real R) (weightOf_pos (w1_nonneg R)).ne'

theorem g1_real (a : Fin 3) : D.g1 a (ix2 r 0) = ((g1 h x n a : ℝ) : EReal) :=
  grad_real R (W := fun i => alphaOf h x n i * phiOf h x i) (M := fun i => alphaOf h x n i * slopeOf h x i)
    (w1_real R) (m1_real R) (weightOf_pos (w1_nonneg R)).ne' a

end

/-- The kernel's row: both results at the bandwidth that its two bisections give. -/
theorem row_real {x0 : Vec Ideal S128x3 .f32} {x1 x2 : Vec Ideal S3x16384 .f32} {r : Fin 128} {Q : Fin 3 → ℝ}
    {V M : Fin 16384 → Fin 3 → ℝ} (T : Tile x0 x1 x2 r Q V M) (a a' t : ℝ)
    (ha : ∀ y, 256 ≤ #{i | head (lenSq (off Q V)) i ≤ y} ↔ a ≤ y) (ha' : ∀ y, 256 ≤ #{i | lenSq (off Q V) i ≤ y} ↔ a' ≤ y)
    (ht : ((halve a')^[7] (0, ((halve a)^[9] (0, top (lenSq (off Q V)))).2)).2 = t) (ht0 : 0 ≤ t)
    (hb : 0 < bandOf (lenSq (off Q V)) t) :
    (data x0 x1 x2).f1 (ix2 r 0) = ((f1 (bandOf (lenSq (off Q V)) t) (off Q V) (Form.unit M) : ℝ) : EReal) ∧
    ∀ c, (data x0 x1 x2).g1 c (ix2 r 0) = ((g1 (bandOf (lenSq (off Q V)) t) (off Q V) (Form.unit M) c : ℝ) : EReal) := by
  have hD := d2_real T
  have hD0 : ∀ j, 0 ≤ lenSq (off Q V) j := fun j => sum_nonneg fun a _ => mul_self_nonneg _
  have hz := bis2_real hD a a' ha ha'
  rw [ht] at hz
  have hih : ihOf x0 x1 (ix2 r 0) = _ := ih_real hD hD0 ht0 hz hb.ne'
  have R : Reads (data x0 x1 x2) r (off Q V) (Form.unit M) (bandOf (lenSq (off Q V)) t) := {
    diff := fun b k j => by
      pointwise [Data.diff, spread_apply, down_apply, q_real T, p_real T]
      rw [← EReal.coe_sub]; rfl
    nr := fun b j => n_real T b j
    nn := fun j => nn_real T j
    ih := hih
    isr := isr_real hD hD0 ht0 hz hb
    fx := fun j => fx_real T j
    tt := fun j => tt_real T _ hb.ne' hih j }
  exact ⟨f1_real R, fun c => g1_real R c⟩

end Cert.KernelIdeal.Form
-- ==== Proof.TopK.lean ====
/- The `K` greatest of a row of negated reals: the row's `K` smallest in increasing order, and where they stand. -/
module
public import proofs.«01_k».proof.Proof.RealMath
public import Idealize.ShloMosaic.Lib.SortFacts
@[expose] public section
noncomputable section
namespace Rimls
open Idealize.ShloMosaic

/-- Positions by increasing `d`, ties by position. -/
def order {n : ℕ} (d : Fin n → ℝ) : Fin n → Fin n := sortedFrom fun k k' => decide (d k < d k')

theorem order_sorts {n : ℕ} (d : Fin n → ℝ) : Sorts d (order d) where
  bij := ⟨sortedFrom_injective _, sortedFrom_surjective _⟩
  mono i j hij := by
    rcases hij.lt_or_eq with h | rfl
    · have h := sortedFrom_noInversion (fun k k' => decide (d k < d k')) (fun k k' => decide (d k < d k'))
        (by intro a b hab; simp only [decide_eq_true_eq] at hab; simp only [decide_eq_false_iff_not]; exact not_lt.2 hab.le)
        (fun _ _ h => h)
        (by
          intro a b c hab hbc
          simp only [decide_eq_false_iff_not, not_lt] at hab hbc ⊢
          exact hbc.trans hab) i j h
      exact not_lt.1 (of_decide_eq_false h)
    · exact le_rfl

theorem along_ix2 {m n : ℕ} (r : Fin m) (c k : Fin n) (h : 1 < (⟨2, ![m, n]⟩ : Shape).rank) :
    Shape.Idx.along (s := ⟨2, ![m, n]⟩) (ix2 r c) ⟨1, h⟩ k = ix2 r k := by
  funext i
  match i with
  | ⟨0, _⟩ => rfl
  | ⟨1, _⟩ => rfl

theorem slice_ix2 {α : Type} {m n K : ℕ} (x : (⟨2, ![m, n]⟩ : Shape).Idx → α)
    (h : (⟨2, ![m, n]⟩ : Shape).Slices (fun _ => 0) ⟨2, ![m, K]⟩) (hK : K ≤ n) (r : Fin m) (j : Fin K) :
    extractStridedSlice ⟨2, ![m, K]⟩ (fun _ => 0) x h (ix2 r j) = x (ix2 r (Fin.castLE hK j)) := by
  refine congrArg x ?_
  funext i
  match i with
  | ⟨0, _⟩ => exact Fin.ext (Nat.zero_add _)
  | ⟨1, _⟩ => exact Fin.ext (Nat.zero_add _)

theorem before_real {n : ℕ} (x : Fin n → EReal) (d : Fin n → ℝ) (hx : ∀ i, x i = ((-d i : ℝ) : EReal)) :
    (fun k k' => Ideal.cmp CmpDirection.gt.ordered (x k) (x k') == 1#1) = fun k k' => decide (d k < d k') := by
  funext k k'
  rw [hx, hx]
  have e : Ideal.cmp CmpDirection.gt.ordered ((-d k : ℝ) : EReal) ((-d k' : ℝ) : EReal) =
      BitVec.ofBool (decide (((-d k' : ℝ) : EReal) < ((-d k : ℝ) : EReal))) := rfl
  rw [e]
  have e' : (((-d k' : ℝ) : EReal) < ((-d k : ℝ) : EReal)) = (d k < d k') := by
    rw [EReal.coe_lt_coe_iff, neg_lt_neg_iff]
  simp only [e']
  by_cases h : d k < d k' <;> simp [h]

variable {m n K : ℕ} (x : FVec Ideal ⟨2, ![m, n]⟩ .f32) (r : Fin m) (d : Fin n → ℝ)
  (hx : ∀ i, x (ix2 r i) = ((-d i : ℝ) : EReal)) (h : (⟨2, ![m, n]⟩ : Shape).Slices (fun _ => 0) ⟨2, ![m, K]⟩)
  (hK : K ≤ n) (j : Fin K)
include hx

theorem sorted_row (c : Fin n) :
    sortedFrom (fun k k' => FloatOps.cmpfTotal (F := Ideal) .gt
      (x (Shape.Idx.along (s := ⟨2, ![m, n]⟩) (ix2 r c) ⟨1, Nat.one_lt_two⟩ k))
      (x (Shape.Idx.along (s := ⟨2, ![m, n]⟩) (ix2 r c) ⟨1, Nat.one_lt_two⟩ k')) == 1#1) = order d := by
  rw [order, ← before_real (fun i => x (ix2 r i)) d hx]
  congr 1
  funext k k'
  exact congrArg₂ (fun a b => FloatOps.cmpfTotal (F := Ideal) .gt (x a) (x b) == 1#1)
    (along_ix2 r c k _) (along_ix2 r c k' _)

theorem topK_values :
    (Host.topK ⟨2, ![m, K]⟩ 1 (FloatOps.cmpfTotal (F := Ideal) .gt) x h).1 (ix2 r j) =
      ((-d (order d (Fin.castLE hK j)) : ℝ) : EReal) := by
  unfold Host.topK
  dsimp only
  rw [slice_ix2 _ h hK]
  unfold Host.sort2
  rw [dif_pos (show 1 < (⟨2, ![m, n]⟩ : Shape).rank from Nat.one_lt_two)]
  dsimp only
  refine (congrArg (fun s : Fin n → Fin n => x (Shape.Idx.along (s := ⟨2, ![m, n]⟩) (ix2 r (Fin.castLE hK j))
    ⟨1, Nat.one_lt_two⟩ (s (Fin.castLE hK j)))) (sorted_row x r d hx _)).trans ?_
  exact (congrArg x (along_ix2 r _ _ _)).trans (hx _)

theorem topK_indices :
    (Host.topK ⟨2, ![m, K]⟩ 1 (FloatOps.cmpfTotal (F := Ideal) .gt) x h).2 (ix2 r j) =
      BitVec.ofNat 32 (order d (Fin.castLE hK j)).val := by
  unfold Host.topK
  dsimp only
  rw [slice_ix2 _ h hK]
  unfold Host.sort2
  rw [dif_pos (show 1 < (⟨2, ![m, n]⟩ : Shape).rank from Nat.one_lt_two)]
  dsimp only
  rw [dif_pos (show 1 < (⟨2, ![m, n]⟩ : Shape).rank from Nat.one_lt_two)]
  exact congrArg (fun s : Fin n → Fin n => BitVec.ofNat 32 (s (Fin.castLE hK j)).val) (sorted_row x r d hx _)

end Rimls
-- ==== Proof.Gather.lean ====
/- Rows of a three-column table taken at a block of row numbers. -/
module
public import proofs.«01_k».proof.Proof.RealMath
public import Idealize.ShloMosaic.Lib.SortFacts
@[expose] public section
noncomputable section
namespace Rimls
open Idealize.ShloMosaic

/-- The result's last axis runs along the row; its first two pick the row number. -/
abbrev rows (wf : GatherDims.WF ⟨2, ![16384, 3]⟩ ⟨3, ![4096, 256, 1]⟩ ⟨3, ![4096, 256, 3]⟩ [2] [0] [] [0] [] 2 ![1, 3]) :
    GatherDims ⟨2, ![16384, 3]⟩ ⟨3, ![4096, 256, 1]⟩ ⟨3, ![4096, 256, 3]⟩ where
  offsetDims := [2]
  collapsedSliceDims := [0]
  operandBatchingDims := []
  startIndicesBatchingDims := []
  startIndexMap := [0]
  indexVectorDim := 2
  sliceSizes := ![1, 3]
  wf := wf

theorem gather_row {α : Type} (wf) (x : (⟨2, ![16384, 3]⟩ : Shape).Idx → α) (idx : IVec ⟨3, ![4096, 256, 1]⟩ 32)
    (r : Fin 4096) (j : Fin 256) (a : Fin 3) (i : Fin 16384) (hi : idx (ix3 r j 0) = BitVec.ofNat 32 i.val) :
    Host.gather (rows wf) x idx (ix3 r j a) = x (ix2 i a) := by
  refine congrArg x ?_
  have hs : ∀ c, GatherDims.siIdx (rows wf) (ix3 r j a) c = ix3 r j 0 := by
    intro c
    funext b
    match b with
    | ⟨0, _⟩ => rfl
    | ⟨1, _⟩ => rfl
    | ⟨2, _⟩ => exact Subsingleton.elim (α := Fin 1) _ _
  funext b
  match b with
  | ⟨0, _⟩ =>
    refine Fin.ext ?_
    change min (idx (GatherDims.siIdx _ (ix3 r j a) _)).toInt.toNat (16384 - 1) + 0 + 0 = i.val
    rw [hs, hi]
    have := i.isLt
    have e : (BitVec.ofNat 32 i.val).toInt = i.val := by
      rw [BitVec.toInt_eq_toNat_of_lt]
      · rw [BitVec.toNat_ofNat, Nat.mod_eq_of_lt (by omega)]
      · rw [BitVec.toNat_ofNat, Nat.mod_eq_of_lt (by omega)]; omega
    rw [e]
    omega
  | ⟨1, _⟩ =>
    refine Fin.ext ?_
    change 0 + 0 + a.val = a.val
    omega

end Rimls
-- ==== Proof.Query.lean ====
/- One query of the arguments, in reals, and its nearest points. -/
module
public import proofs.«01_k».proof.Proof.KernelRow
public import proofs.«01_k».proof.Proof.TopK
public import proofs.«01_k».proof.Proof.Gather
@[expose] public section
noncomputable section
namespace Rimls
open Idealize.ShloMosaic
export Cert.KernelIdeal.Form (off unit)

/-- The arguments hold the reals `Q` (query `r`), `V` (the vertices), `M` (the normals as given). -/
structure Query (x0 : FVec Ideal ⟨2, ![4096, 3]⟩ .f32) (x1 x2 : FVec Ideal ⟨2, ![16384, 3]⟩ .f32) (r : Fin 4096)
    (Q : Fin 3 → ℝ) (V M : Fin 16384 → Fin 3 → ℝ) : Prop where
  q : ∀ a, x0 (ix2 r a) = (Q a : EReal)
  v : ∀ j a, x1 (ix2 j a) = (V j a : EReal)
  m : ∀ j a, x2 (ix2 j a) = (M j a : EReal)

/-- The squared distances from the query. -/
def dist2 (Q : Fin 3 → ℝ) (V : Fin 16384 → Fin 3 → ℝ) : Fin 16384 → ℝ := lenSq (off Q V)
theorem dist2_nonneg (Q : Fin 3 → ℝ) (V : Fin 16384 → Fin 3 → ℝ) (i : Fin 16384) : 0 ≤ dist2 Q V i := by
  rw [dist2, lenSq]
  exact Finset.sum_nonneg fun a _ => mul_self_nonneg (off Q V i a)

/-- A row number, as a word, is not negative. -/
theorem not_neg (i : Fin 16384) : (BitVec.ofNat 32 i.val).slt 0#32 = false := by
  have := i.isLt
  have e : (BitVec.ofNat 32 i.val).toInt = i.val := by
    rw [BitVec.toInt_eq_toNat_of_lt]
    · rw [BitVec.toNat_ofNat, Nat.mod_eq_of_lt (by omega)]
    · rw [BitVec.toNat_ofNat, Nat.mod_eq_of_lt (by omega)]; omega
  rw [BitVec.slt, e]
  simp

/-- The query's nearest 256 points, nearest first. -/
def near (Q : Fin 3 → ℝ) (V : Fin 16384 → Fin 3 → ℝ) (j : Fin 256) : Fin 16384 :=
  order (dist2 Q V) (Fin.castLE (by decide) j)
/-- Their offsets to the query. -/
def nearOff (Q : Fin 3 → ℝ) (V : Fin 16384 → Fin 3 → ℝ) : Fin 256 → Fin 3 → ℝ := off Q V ∘ near Q V
/-- Their unit normals. -/
def nearUnit (Q : Fin 3 → ℝ) (V M : Fin 16384 → Fin 3 → ℝ) : Fin 256 → Fin 3 → ℝ := unit M ∘ near Q V
/-- The mean of their distances. -/
def meanBand (Q : Fin 3 → ℝ) (V : Fin 16384 → Fin 3 → ℝ) : ℝ := (∑ j, √(dist2 Q V (near Q V j))) / 256 + eps

end Rimls
-- ==== Proof.ReferenceFit.lean ====
/- The fit that both references make once the nearest points and the bandwidth are known, and its rows in reals. -/
module
public import proofs.«01_k».proof.Proof.Query
public import proofs.«01_k».proof.Proof.Gen.ReferenceIdeal.Read
@[expose] public section
set_option maxRecDepth 16384
noncomputable section
namespace Cert.ReferenceIdeal.Fit
open Cert.ReferenceIdeal Cert.ReferenceIdeal.Gen
open Idealize.ShloMosaic Rimls Finset

/-- A literal, in every entry. -/
def lit (S : Shape) (w : BitVec 32) (h : S_.BroadcastsInDim S (![] : Fin 0 → Fin S.rank)) : FVec Ideal S .f32 :=
  broadcastInDim S ![] h (constant S_ .f32 w)
/-- A number for each query, along its points. -/
def along (v : FVec Ideal S4096 .f32) : FVec Ideal S4096x256 .f32 :=
  broadcastInDim S4096x256 ![0, 1] bcast_S4096x1_S4096x256_0_1 (broadcastInDim S4096x1 ![0] bcast_S4096_S4096x1_0 v)
/-- A number for each query, along the coordinates. -/
def spread (v : FVec Ideal S4096 .f32) : FVec Ideal S4096x3 .f32 :=
  broadcastInDim S4096x3 ![0, 1] bcast_S4096x1_S4096x3_0_1 (broadcastInDim S4096x1 ![0] bcast_S4096_S4096x1_0 v)
/-- A number for each point, along the coordinates. -/
def column (v : FVec Ideal S4096x256 .f32) : FVec Ideal S4096x256x3 .f32 :=
  broadcastInDim S4096x256x3 ![0, 1, 2] bcast_S4096x256x1_S4096x256x3_0_1_2
    (broadcastInDim S4096x256x1 ![0, 1] bcast_S4096x256_S4096x256x1_0_1 v)
/-- The sum over the points of a number for each. -/
def total (v : FVec Ideal S4096x256 .f32) : FVec Ideal S4096 .f32 :=
  Host.reduceAdd v (constant S_ .f32 0x00000000#32) reducesTo_S4096x256_S4096_d1 h_S_
/-- The sum over the points of a vector for each. -/
def totals (v : FVec Ideal S4096x256x3 .f32) : FVec Ideal S4096x3 .f32 :=
  Host.reduceAdd v (constant S_ .f32 0x00000000#32) reducesTo_S4096x256x3_S4096x3_d1 h_S_
/-- The sum over the coordinates. -/
def inner (v : FVec Ideal S4096x256x3 .f32) : FVec Ideal S4096x256 .f32 :=
  Host.reduceAdd v (constant S_ .f32 0x00000000#32) reducesTo_S4096x256x3_S4096x256_d2 h_S_

/-- The sum of the weights, and the small constant. -/
def weight (w : FVec Ideal S4096x256 .f32) : FVec Ideal S4096 .f32 :=
  addf (total w) (lit S4096 0x322BCC77#32 bcast_S_S4096)
/-- The weighted mean of the plane distances `f`. -/
def potential (w f : FVec Ideal S4096x256 .f32) : FVec Ideal S4096 .f32 := Host.divf (total (mulf w f)) (weight w)
/-- The weights' gradients, from half the slopes `s` and the offsets `o`. -/
def moments (s : FVec Ideal S4096x256 .f32) (o : FVec Ideal S4096x256x3 .f32) : FVec Ideal S4096x256x3 .f32 :=
  mulf (broadcastInDim S4096x256x3 ![0, 1, 2] bcast_S4096x256x1_S4096x256x3_0_1_2
    (mulf (broadcastInDim S4096x256x1 ![0, 1] bcast_S4096x256_S4096x256x1_0_1 s) (lit S4096x256x1 0x40000000#32 bcast_S_S4096x256x1))) o
/-- The gradient of the weighted mean. -/
def gradient (w s f : FVec Ideal S4096x256 .f32) (o u : FVec Ideal S4096x256x3 .f32) : FVec Ideal S4096x3 .f32 :=
  Host.divf (addf (subf (totals (mulf (moments s o) (column f))) (mulf (spread (potential w f)) (totals (moments s o))))
    (totals (mulf (column w) u))) (spread (weight w))

variable (b : FVec Ideal S4096 .f32) (o u : FVec Ideal S4096x256x3 .f32)

def clipped : FVec Ideal S4096x256 .f32 :=
  maximumf (subf (lit S4096x256 0x3F800000#32 bcast_S_S4096x256) (Host.divf (inner (mulf o o)) (along (mulf b b))))
    (lit S4096x256 0x00000000#32 bcast_S_S4096x256)
def phi : FVec Ideal S4096x256 .f32 :=
  mulf (mulf (clipped b o) (clipped b o)) (mulf (clipped b o) (clipped b o))
def slope : FVec Ideal S4096x256 .f32 :=
  Host.divf (mulf (lit S4096x256 0xC0800000#32 bcast_S_S4096x256) (mulf (mulf (clipped b o) (clipped b o)) (clipped b o)))
    (along (mulf b b))
/-- The first pass weighs each point by `phi` times one. -/
def once (v : FVec Ideal S4096x256 .f32) : FVec Ideal S4096x256 .f32 := mulf (lit S4096x256 0x3F800000#32 bcast_S_S4096x256) v
def value0 : FVec Ideal S4096 .f32 := potential (once (phi b o)) (inner (mulf o u))
def grad0 : FVec Ideal S4096x3 .f32 := gradient (once (phi b o)) (once (slope b o)) (inner (mulf o u)) o u
/-- The residual of a point, over the bandwidth's half. -/
def residual : FVec Ideal S4096x256 .f32 :=
  Host.divf (subf (inner (mulf o u)) (along (value0 b o u)))
    (broadcastInDim S4096x256 ![0, 1] bcast_S4096x1_S4096x256_0_1
      (addf (mulf (lit S4096x1 0x3F000000#32 bcast_S_S4096x1) (broadcastInDim S4096x1 ![0] bcast_S4096_S4096x1_0 b))
        (lit S4096x1 0x322BCC77#32 bcast_S_S4096x1)))
/-- The difference of a point's normal from the first gradient. -/
def bend : FVec Ideal S4096x256x3 .f32 :=
  subf u (broadcastInDim S4096x256x3 ![0, 1, 2] bcast_S4096x1x3_S4096x256x3_0_1_2
    (broadcastInDim S4096x1x3 ![0, 2] bcast_S4096x3_S4096x1x3_0_2 (grad0 b o u)))
def alpha : FVec Ideal S4096x256 .f32 :=
  mulf (Host.exp (Host.negf (mulf (residual b o u) (residual b o u))))
    (Host.exp (Host.divf (Host.negf (inner (mulf (bend b o u) (bend b o u)))) (lit S4096x256 0x3F23D70A#32 bcast_S_S4096x256)))
/-- The second pass: the potential and its gradient. -/
def value : FVec Ideal S4096 .f32 := potential (mulf (alpha b o u) (phi b o)) (inner (mulf o u))
def grad : FVec Ideal S4096x3 .f32 :=
  gradient (mulf (alpha b o u) (phi b o)) (mulf (alpha b o u) (slope b o)) (inner (mulf o u)) o u

section pass
variable {r : Fin 4096} {X N : Fin 256 → Fin 3 → ℝ} {o u : FVec Ideal S4096x256x3 .f32} {f w s : FVec Ideal S4096x256 .f32}
  {W S : Fin 256 → ℝ} (ho : ∀ j a, o (ix3 r j a) = (X j a : EReal)) (hu : ∀ j a, u (ix3 r j a) = (N j a : EReal))
  (hf : ∀ j, f (ix2 r j) = (fxOf X N j : EReal)) (hw : ∀ j, w (ix2 r j) = (W j : EReal))
  (hs : ∀ j, s (ix2 r j) = ((S j / 2 : ℝ) : EReal)) (hW : ∀ j, 0 ≤ W j)
include hw

theorem weight_real : weight w (ix1 r) = (weightOf W : EReal) := by
  pointwise [weight, total, lit, hw]
  simp only [word_eps, sum_real, ← EReal.coe_add, weightOf]

include hf hW
theorem potential_real : potential w f (ix1 r) = (valueOf W X N : EReal) := by
  have h := (weightOf_pos hW).ne'
  have hd := weight_real hw
  pointwise [potential, total, hd, hw, hf]
  simp only [← EReal.coe_mul, sum_real, div_real _ _ h, valueOf]

omit hf hw hW in
include ho hs in
theorem moments_real (j : Fin 256) (a : Fin 3) : moments s o (ix3 r j a) = ((S j * X j a : ℝ) : EReal) := by
  pointwise [moments, lit, hs, ho]
  simp only [word_two, ← EReal.coe_mul]
  refine congrArg Real.toEReal ?_
  ring

include ho hu hs
theorem gradient_real (a : Fin 3) : gradient w s f o u (ix2 r a) = (gradOf W S X N a : EReal) := by
  have h := (weightOf_pos hW).ne'
  have hm := moments_real ho hs
  have hd := weight_real hw
  have hp := potential_real hf hw hW
  pointwise [gradient, totals, column, spread, hm, hd, hp, hu, hf, hw]
  simp only [← EReal.coe_mul, sum_real, ← EReal.coe_add, ← EReal.coe_sub, div_real _ _ h]
  rfl
end pass

variable {b o u} {r : Fin 4096} {X N : Fin 256 → Fin 3 → ℝ} {h : ℝ} (h0 : 0 < h) (hb : b (ix1 r) = (h : EReal))
  (ho : ∀ j a, o (ix3 r j a) = (X j a : EReal)) (hu : ∀ j a, u (ix3 r j a) = (N j a : EReal))

section
include ho hu
theorem fx_real (j : Fin 256) : inner (mulf o u) (ix2 r j) = (fxOf X N j : EReal) := by
  pointwise [inner, ho, hu]
  simp only [← EReal.coe_mul, sum_real]
  rfl
end

section
include h0 hb ho
theorem clip_real (j : Fin 256) : clipped b o (ix2 r j) = (clip h X j : EReal) := by
  have hh : h * h ≠ 0 := (mul_pos h0 h0).ne'
  pointwise [clipped, inner, lit, along, ho, hb]
  simp only [← EReal.coe_mul, sum_real, div_real _ _ hh, ← EReal.coe_one, ← EReal.coe_zero, ← EReal.coe_sub, max_real]
  rfl

theorem phi_real (j : Fin 256) : phi b o (ix2 r j) = (phiOf h X j : EReal) := by
  have hc := clip_real h0 hb ho
  pointwise [phi, hc]
  simp only [← EReal.coe_mul]
  refine congrArg Real.toEReal ?_
  rw [phiOf]; ring

theorem slope_real (j : Fin 256) : slope b o (ix2 r j) = ((slopeOf h X j / 2 : ℝ) : EReal) := by
  have hh : h * h ≠ 0 := (mul_pos h0 h0).ne'
  have hc := clip_real h0 hb ho
  pointwise [slope, lit, along, hc, hb]
  simp only [word_neg4, ← EReal.coe_mul, div_real _ _ hh]
  refine congrArg Real.toEReal ?_
  rw [slopeOf]; ring
end

theorem once_real {v : FVec Ideal S4096x256 .f32} {j : Fin 256} {x : ℝ} (hv : v (ix2 r j) = (x : EReal)) :
    once v (ix2 r j) = (x : EReal) := by
  pointwise [once, lit, hv]

include h0 hb ho hu

theorem value0_real : value0 b o u (ix1 r) = (f0 h X N : EReal) :=
  potential_real (fx_real ho hu) (fun j => once_real (phi_real h0 hb ho j)) (phiOf_nonneg h X)

theorem grad0_real (a : Fin 3) : grad0 b o u (ix2 r a) = (g0 h X N a : EReal) :=
  gradient_real ho hu (fx_real ho hu) (fun j => once_real (phi_real h0 hb ho j)) (fun j => once_real (slope_real h0 hb ho j))
    (phiOf_nonneg h X) a

theorem alpha_real (j : Fin 256) : alpha b o u (ix2 r j) = (alphaOf h X N j : EReal) := by
  have hd : 1 / 2 * h + eps ≠ 0 := (add_pos (mul_pos one_half_pos h0) eps_pos).ne'
  have hs := sigmaSq_ne
  have hf := fx_real ho hu
  have hv := value0_real h0 hb ho hu
  have hg := grad0_real h0 hb ho hu
  have hr : residual b o u (ix2 r j) = (((fxOf X N j - f0 h X N) / (1 / 2 * h + eps) : ℝ) : EReal) := by
    pointwise [residual, along, lit, hf, hv, hb]
    simp only [word_half, word_eps, ← EReal.coe_mul, ← EReal.coe_add, ← EReal.coe_sub, div_real _ _ hd]
  have hn : ∀ a, bend b o u (ix3 r j a) = ((N j a - g0 h X N a : ℝ) : EReal) := by
    intro a
    pointwise [bend, hu, hg]
    rw [← EReal.coe_sub]
  pointwise [alpha, inner, lit, hr, hn]
  simp only [word_sigma, ← EReal.coe_mul, sum_real, ← EReal.coe_neg, div_real _ _ hs, exp_real]
  refine congrArg Real.toEReal ?_
  rw [alphaOf, Real.exp_add]
  simp only [pow_two]

theorem weight2_real (j : Fin 256) : mulf (alpha b o u) (phi b o) (ix2 r j) = ((alphaOf h X N j * phiOf h X j : ℝ) : EReal) := by
  have h1 := alpha_real h0 hb ho hu
  have h2 := phi_real h0 hb ho
  pointwise [h1, h2]
  rw [← EReal.coe_mul]

theorem slope2_real (j : Fin 256) :
    mulf (alpha b o u) (slope b o) (ix2 r j) = ((alphaOf h X N j * slopeOf h X j / 2 : ℝ) : EReal) := by
  have h1 := alpha_real h0 hb ho hu
  have h2 := slope_real h0 hb ho
  pointwise [h1, h2]
  rw [← EReal.coe_mul, mul_div_assoc]

/-- The potential of a row. -/
theorem value_real : value b o u (ix1 r) = (f1 h X N : EReal) :=
  potential_real (fx_real ho hu) (weight2_real h0 hb ho hu) fun _ => mul_nonneg (alphaOf_pos h _ _ _).le (phiOf_nonneg h _ _)

/-- The gradient of a row. -/
theorem grad_real (a : Fin 3) : grad b o u (ix2 r a) = (g1 h X N a : EReal) :=
  gradient_real ho hu (fx_real ho hu) (weight2_real h0 hb ho hu) (slope2_real h0 hb ho hu)
    (fun _ => mul_nonneg (alphaOf_pos h _ _ _).le (phiOf_nonneg h _ _)) a

end Cert.ReferenceIdeal.Fit
-- ==== Proof.ReferenceRow.lean ====
/- One query of the reference in reals: the nearest points' offsets and normals, and with the bandwidth the two results. -/
module
public import proofs.«01_k».proof.Proof.ReferenceFit
public import proofs.«01_k».proof.Proof.Gen.ReferenceIdeal.Read
@[expose] public section
set_option maxRecDepth 16384
noncomputable section
namespace Cert.ReferenceIdeal.Row
open Cert.ReferenceIdeal Cert.ReferenceIdeal.Gen Cert.ReferenceIdeal.Read
open Idealize.ShloMosaic Rimls Finset

section
variable {x0 : FVec Ideal ⟨2, ![4096, 3]⟩ .f32} {x1 x2 : FVec Ideal ⟨2, ![16384, 3]⟩ .f32} {r : Fin 4096}
  {Q : Fin 3 → ℝ} {V M : Fin 16384 → Fin 3 → ℝ} (T : Query x0 x1 x2 r Q V M)
include T

theorem d2_real (i : Fin 16384) : val_main_v20 (F := Ideal) x0 x1 (ix2 r i) = ((dist2 Q V i : ℝ) : EReal) := by
  pointwise [val_main_v20, val_main_v18, val_main_v13, val_main_v11, val_main_v7, val_main_v6, val_main_v5,
    val_main_cst_0, val_main_v12, val_main_v10, val_main_v9, val_main_v8, val_main_cst_1, val_main_v17,
    val_main_v16, val_main_cst_2, val_main_v15, val_main_v14, val_main_v19, val_main_cst_3]
  simp only [Fin.sum_univ_three, T.q, T.v, word_two, ← EReal.coe_mul, ← EReal.coe_add, ← EReal.coe_sub]
  rw [← EReal.coe_zero, max_real]
  have h : Q 0 * Q 0 + Q 1 * Q 1 + Q 2 * Q 2 + (V i 0 * V i 0 + V i 1 * V i 1 + V i 2 * V i 2) -
      2 * (Q 0 * V i 0 + Q 1 * V i 1 + Q 2 * V i 2) = dist2 Q V i := by
    simp only [dist2, lenSq, off, Fin.sum_univ_three]; ring
  rw [h, max_eq_left (dist2_nonneg Q V i)]

theorem neg_real (i : Fin 16384) : val_main_v21 (F := Ideal) x0 x1 (ix2 r i) = ((-dist2 Q V i : ℝ) : EReal) := by
  pointwise [val_main_v21, d2_real T i]
  rw [EReal.coe_neg]

theorem values_real (j : Fin 256) :
    val_main_values (F := Ideal) x0 x1 (ix2 r j) = ((-dist2 Q V (near Q V j) : ℝ) : EReal) :=
  topK_values _ r (dist2 Q V) (neg_real T) sliceFits_S4096x16384_S4096x256 (by decide) j

theorem indices_real (j : Fin 256) : val_main_indices (F := Ideal) x0 x1 (ix2 r j) = BitVec.ofNat 32 (near Q V j).val :=
  topK_indices _ r (dist2 Q V) (neg_real T) sliceFits_S4096x16384_S4096x256 (by decide) j

theorem index1 (j : Fin 256) : val_main_v36 (F := Ideal) x0 x1 (ix3 r j 0) = BitVec.ofNat 32 (near Q V j).val := by
  pointwise [val_main_v36, val_main_v35, val_main_v32, val_main_v31, val_main_c, val_main_v34, val_main_v33,
    val_main_c_8, indices_real T j]
  simp [Scalar.select, IntOp.cmpi, not_neg]

theorem index2 (j : Fin 256) : val_main_v43 (F := Ideal) x0 x1 (ix3 r j 0) = BitVec.ofNat 32 (near Q V j).val := by
  pointwise [val_main_v43, val_main_v42, val_main_v39, val_main_v38, val_main_c_9, val_main_v41, val_main_v40,
    val_main_c_10, indices_real T j]
  simp [Scalar.select, IntOp.cmpi, not_neg]

theorem vertex_real (j : Fin 256) (a : Fin 3) :
    val_main_v37 (F := Ideal) x0 x1 (ix3 r j a) = ((V (near Q V j) a : ℝ) : EReal) :=
  (gather_row _ x1 (val_main_v36 (F := Ideal) x0 x1) r j a (near Q V j) (index1 T j)).trans (T.v _ a)

theorem unit_real (i : Fin 16384) (a : Fin 3) : val_main_v4 (F := Ideal) x2 (ix2 i a) = ((unit M i a : ℝ) : EReal) := by
  have hs : 0 ≤ ∑ b, M i b * M i b := sum_nonneg fun _ _ => mul_self_nonneg _
  have hd := Cert.KernelIdeal.Form.unit_den_ne M i
  pointwise [val_main_v4, val_main_v3, val_main_v2, val_main_v0, val_main_call0_v2, val_main_call0_v1,
    val_main_call0_v0, val_main_call0_cst, val_main_v1, val_main_cst]
  simp only [T.m, word_eps, ← EReal.coe_mul, sum_real, sqrt_real _ hs, max_real, div_real _ _ hd, unit]

theorem normal_real (j : Fin 256) (a : Fin 3) :
    val_main_v44 (F := Ideal) x0 x1 x2 (ix3 r j a) = ((nearUnit Q V M j a : ℝ) : EReal) :=
  (gather_row _ (val_main_v4 (F := Ideal) x2) (val_main_v43 (F := Ideal) x0 x1) r j a (near Q V j) (index2 T j)).trans (unit_real T _ a)

theorem off_real (j : Fin 256) (a : Fin 3) :
    val_main_v47 (F := Ideal) x0 x1 (ix3 r j a) = ((nearOff Q V j a : ℝ) : EReal) := by
  pointwise [val_main_v47, val_main_v46, val_main_v45, vertex_real T j a]
  rw [T.q, ← EReal.coe_sub]
  rfl

omit T in
theorem value_form : val_main_v136 (F := Ideal) x0 x1 x2 =
    Fit.value (val_main_v30 (F := Ideal) x0 x1) (val_main_v47 (F := Ideal) x0 x1) (val_main_v44 (F := Ideal) x0 x1 x2) := rfl
omit T in
theorem grad_form : val_main_v153 (F := Ideal) x0 x1 x2 =
    Fit.grad (val_main_v30 (F := Ideal) x0 x1) (val_main_v47 (F := Ideal) x0 x1) (val_main_v44 (F := Ideal) x0 x1 x2) := rfl

variable {h : ℝ} (h0 : 0 < h) (hb : val_main_v30 (F := Ideal) x0 x1 (ix1 r) = (h : EReal))
include h0 hb

/-- The reference's potential at the query. -/
theorem value_real : val_main_v136 (F := Ideal) x0 x1 x2 (ix1 r) = ((f1 h (nearOff Q V) (nearUnit Q V M) : ℝ) : EReal) := by
  rw [value_form, Fit.value_real h0 hb (off_real T) (normal_real T)]

/-- The reference's gradient at the query. -/
theorem grad_real (a : Fin 3) :
    val_main_v153 (F := Ideal) x0 x1 x2 (ix2 r a) = ((g1 h (nearOff Q V) (nearUnit Q V M) a : ℝ) : EReal) := by
  rw [grad_form, Fit.grad_real h0 hb (off_real T) (normal_real T)]

end
end Cert.ReferenceIdeal.Row
-- ==== Proof.GridReferenceRow.lean ====
/- One query of the grid reference in reals. Apart from the bandwidth its operations are the reference's. -/
module
public import proofs.«01_k».proof.Proof.ReferenceRow
public import proofs.«01_k».proof.Proof.Gen.GridReferenceIdeal.Read
@[expose] public section
set_option maxRecDepth 16384
noncomputable section
namespace Cert.GridReferenceIdeal.Row
open Cert.GridReferenceIdeal Cert.GridReferenceIdeal.Gen Cert.GridReferenceIdeal.Read
open Idealize.ShloMosaic Rimls Finset

section
variable {x0 : FVec Ideal ⟨2, ![4096, 3]⟩ .f32} {x1 x2 : FVec Ideal ⟨2, ![16384, 3]⟩ .f32} {r : Fin 4096}
  {Q : Fin 3 → ℝ} {V M : Fin 16384 → Fin 3 → ℝ}

theorem d2_form : val_main_v20 (F := Ideal) x0 x1 = Cert.ReferenceIdeal.Read.val_main_v20 (F := Ideal) x0 x1 := rfl
theorem off_form : val_main_v86 (F := Ideal) x0 x1 = Cert.ReferenceIdeal.Read.val_main_v47 (F := Ideal) x0 x1 := rfl
theorem normal_form : val_main_v83 (F := Ideal) x0 x1 x2 = Cert.ReferenceIdeal.Read.val_main_v44 (F := Ideal) x0 x1 x2 := rfl
theorem value_form : val_main_v175 (F := Ideal) x0 x1 x2 = Cert.ReferenceIdeal.Fit.value (val_main_v69 (F := Ideal) x0 x1)
    (val_main_v86 (F := Ideal) x0 x1) (val_main_v83 (F := Ideal) x0 x1 x2) := rfl
theorem grad_form : val_main_v192 (F := Ideal) x0 x1 x2 = Cert.ReferenceIdeal.Fit.grad (val_main_v69 (F := Ideal) x0 x1)
    (val_main_v86 (F := Ideal) x0 x1) (val_main_v83 (F := Ideal) x0 x1 x2) := rfl

variable (T : Query x0 x1 x2 r Q V M)
include T

theorem d2_real (i : Fin 16384) : val_main_v20 (F := Ideal) x0 x1 (ix2 r i) = ((dist2 Q V i : ℝ) : EReal) := by
  rw [d2_form, Cert.ReferenceIdeal.Row.d2_real T]

variable {h : ℝ} (h0 : 0 < h) (hb : val_main_v69 (F := Ideal) x0 x1 (ix1 r) = (h : EReal))
include h0 hb

/-- The grid reference's potential at the query. -/
theorem value_real : val_main_v175 (F := Ideal) x0 x1 x2 (ix1 r) = ((f1 h (nearOff Q V) (nearUnit Q V M) : ℝ) : EReal) := by
  rw [value_form, off_form, normal_form,
    Cert.ReferenceIdeal.Fit.value_real h0 hb (Cert.ReferenceIdeal.Row.off_real T) (Cert.ReferenceIdeal.Row.normal_real T)]

/-- The grid reference's gradient at the query. -/
theorem grad_real (a : Fin 3) :
    val_main_v192 (F := Ideal) x0 x1 x2 (ix2 r a) = ((g1 h (nearOff Q V) (nearUnit Q V M) a : ℝ) : EReal) := by
  rw [grad_form, off_form, normal_form,
    Cert.ReferenceIdeal.Fit.grad_real h0 hb (Cert.ReferenceIdeal.Row.off_real T) (Cert.ReferenceIdeal.Row.normal_real T)]

end
end Cert.GridReferenceIdeal.Row
-- ==== Proof.GridBand.lean ====
/- The bandwidth of the grid reference: both distances rounded up on their grids, and the mean they give. -/
module
public import proofs.«01_k».proof.Proof.GridReferenceRow
public import proofs.«01_k».proof.Proof.KernelBand
@[expose] public section
set_option maxRecDepth 16384
noncomputable section
namespace Cert.GridReferenceIdeal.Row
open Cert.GridReferenceIdeal Cert.GridReferenceIdeal.Gen Cert.GridReferenceIdeal.Read
open Idealize.ShloMosaic Rimls Finset
open Cert.KernelIdeal.Form (head top bandOf univ_head)

/-- The 256th smallest of the first 2048 of a row. -/
def headKth (D : Fin 16384 → ℝ) : ℝ := head D (order (head D) 255)
/-- The 256th smallest of a row. -/
def kth (D : Fin 16384 → ℝ) : ℝ := D (order D 255)
/-- The squared radius: each rounded up on its grid. -/
def radiusSq (D : Fin 16384 → ℝ) : ℝ := roundedUp (kth D) (roundedUp (headKth D) (top D / 512) / 128)

theorem rounded_real (a s : ℝ) (z : EReal) (hz : z = 0) :
    (if (0 : EReal) < (s : EReal) then max (Ideal.liftRound Int.ceil (Ideal.div (a : EReal) (s : EReal))) 1 * (s : EReal) else z)
      = ((roundedUp a s : ℝ) : EReal) := by
  subst hz
  rw [roundedUp]
  by_cases h : 0 < s
  · rw [if_pos h, if_pos (EReal.coe_pos.2 h), div_real _ _ h.ne',
      show Ideal.liftRound Int.ceil ((a / s : ℝ) : EReal) = (((⌈a / s⌉ : ℤ) : ℝ) : EReal) from rfl,
      ← EReal.coe_one, max_real, ← EReal.coe_mul]
  · rw [if_neg h, if_neg (fun hc => h (EReal.coe_pos.1 hc)), EReal.coe_zero]

theorem zero_entry : (id (constant S_ FTy.f32 0#32) : FVec Ideal S_ .f32) ix0 = 0 := by
  rw [id]; pointwise

variable {x0 : FVec Ideal ⟨2, ![4096, 3]⟩ .f32} {x1 x2 : FVec Ideal ⟨2, ![16384, 3]⟩ .f32} {r : Fin 4096}
  {Q : Fin 3 → ℝ} {V M : Fin 16384 → Fin 3 → ℝ} (T : Query x0 x1 x2 r Q V M)
include T

theorem head_neg (i : Fin 2048) : val_main_v27 (F := Ideal) x0 x1 (ix2 r i) = ((-head (dist2 Q V) i : ℝ) : EReal) := by
  have h := d2_real T
  pointwise [val_main_v27, val_main_v26, h]
  rfl

theorem headKth_real : val_main_v30 (F := Ideal) x0 x1 (ix1 r) = ((headKth (dist2 Q V) : ℝ) : EReal) := by
  have h : val_main_values_5 (F := Ideal) x0 x1 (ix2 r 255) = ((-headKth (dist2 Q V) : ℝ) : EReal) :=
    topK_values _ r (head (dist2 Q V)) (head_neg T) sliceFits_S4096x2048_S4096x256 (by decide) 255
  pointwise [val_main_v30, val_main_v29, val_main_v28, h]
  rw [← EReal.coe_neg, neg_neg]

theorem all_neg (i : Fin 16384) : val_main_v42 (F := Ideal) x0 x1 (ix2 r i) = ((-dist2 Q V i : ℝ) : EReal) := by
  have h := d2_real T
  pointwise [val_main_v42, h]
  rfl

theorem kth_real : val_main_v45 (F := Ideal) x0 x1 (ix1 r) = ((kth (dist2 Q V) : ℝ) : EReal) := by
  have h : val_main_values_12 (F := Ideal) x0 x1 (ix2 r 255) = ((-kth (dist2 Q V) : ℝ) : EReal) :=
    topK_values _ r (dist2 Q V) (all_neg T) sliceFits_S4096x16384_S4096x256 (by decide) 255
  pointwise [val_main_v45, val_main_v44, val_main_v43, h]
  rw [← EReal.coe_neg, neg_neg]

theorem step_real : val_main_v33 (F := Ideal) x0 x1 (ix1 r) = ((top (dist2 Q V) / 512 : ℝ) : EReal) := by
  have h := d2_real T
  pointwise [val_main_v33, val_main_v32, val_main_v31, val_main_v26, val_main_cst_7, val_main_cst_8, h]
  simp only [word_bot, word_512]
  rw [fold_max_real univ_head, div_real _ _ (by norm_num)]
  rfl

theorem bound_real : val_main_v41 (F := Ideal) x0 x1 (ix1 r) = ((roundedUp (headKth (dist2 Q V)) (top (dist2 Q V) / 512) : ℝ) : EReal) := by
  pointwise [val_main_v41, val_main_call1_v1, val_main_call1_v0, val_main_v40, val_main_v39, val_main_v38, val_main_v37, val_main_v36, val_main_v35, val_main_v34, val_main_cst_9, val_main_cst_10, val_main_cst_11, step_real T, headKth_real T]
  exact rounded_real _ _ _ zero_entry

theorem fine_step_real : val_main_v47 (F := Ideal) x0 x1 (ix1 r)
    = ((roundedUp (headKth (dist2 Q V)) (top (dist2 Q V) / 512) / 128 : ℝ) : EReal) := by
  pointwise [val_main_v47, val_main_v46, val_main_cst_14, bound_real T]
  rw [word_128, div_real _ _ (by norm_num)]

theorem radius_real : val_main_v55 (F := Ideal) x0 x1 (ix1 r) = ((radiusSq (dist2 Q V) : ℝ) : EReal) := by
  pointwise [val_main_v55, val_main_call2_v1, val_main_call2_v0, val_main_v54, val_main_v53, val_main_v52, val_main_v51,
    val_main_v50, val_main_v49, val_main_v48, val_main_cst_15, val_main_cst_16, val_main_cst_17, fine_step_real T, kth_real T]
  exact rounded_real _ _ _ zero_entry

theorem band_real : val_main_v69 (F := Ideal) x0 x1 (ix1 r) = ((bandOf (dist2 Q V) (radiusSq (dist2 Q V)) : ℝ) : EReal) := by
  have h := d2_real T
  have h0 := dist2_nonneg Q V
  have hr : 0 ≤ radiusSq (dist2 Q V) := roundedUp_nonneg _ _
  pointwise [val_main_v69, val_main_v68, val_main_v67, val_main_v66, val_main_v65, val_main_v64, val_main_v63, val_main_v62,
    val_main_v61, val_main_v60, val_main_v59, val_main_v58, val_main_v57, val_main_v56, val_main_cst_18, val_main_cst_19,
    val_main_cst_20, val_main_cst_21, radius_real T, h]
  simp only [sqrt_real _ hr, fun i => sqrt_real _ (h0 i), word_256, word_eps, ← EReal.coe_sub]
  simp only [← EReal.coe_zero, max_real, sum_real, div_real _ _ (by norm_num : (256 : ℝ) ≠ 0), ← EReal.coe_sub, ← EReal.coe_add]
  refine congrArg Real.toEReal ?_
  rw [bandOf]
  ring

end Cert.GridReferenceIdeal.Row
-- ==== Proof.Combine.lean ====
/- One query: the kernel's two bisections end at the grid's radius, points beyond the nearest 256 weigh nothing, and
   where a gap follows the 256th distance the grid changes nothing. -/
module
public import proofs.«01_k».proof.Proof.KernelFit
public import proofs.«01_k».proof.Proof.GridBand
@[expose] public section
set_option maxRecDepth 16384
noncomputable section
namespace Rimls
open Idealize.ShloMosaic Finset
open Cert.KernelIdeal.Form (head top bandOf univ_head Tile data row_real)
open Cert.GridReferenceIdeal.Row (headKth kth radiusSq)
open Cert.KernelIdeal (S128x3 S3x16384)

section radius
variable (D : Fin 16384 → ℝ)

theorem head_count (y : ℝ) : 256 ≤ #{i | head D i ≤ y} ↔ headKth D ≤ y := (order_sorts (head D)).count 255 y
theorem all_count (y : ℝ) : 256 ≤ #{i | D i ≤ y} ↔ kth D ≤ y := (order_sorts D).count 255 y

theorem headKth_le_top : headKth D ≤ top D := le_sup' (head D) (mem_univ _)

/-- There are as many points below in the whole row as in its head. -/
theorem kth_le_headKth : kth D ≤ headKth D := by
  refine (all_count D _).1 (((head_count D _).2 le_rfl).trans ?_)
  refine card_le_card_of_injOn (fun i => ⟨i.val, by omega⟩) (fun i hi => ?_) fun i _ j _ hij => ?_
  · simp only [coe_filter, mem_univ, true_and, Set.mem_setOf_eq] at hi ⊢
    exact hi
  · exact Fin.ext (Fin.mk.inj hij)

variable {D} (h0 : ∀ i, 0 ≤ D i)
include h0

theorem top_nonneg : 0 ≤ top D := (h0 _).trans (le_sup' (head D) (mem_univ 0))

theorem headKth_le_bound : headKth D ≤ roundedUp (headKth D) (top D / 512) := by
  by_cases h : 0 < top D
  · exact le_roundedUp _ _ (by positivity)
  · have ht := top_nonneg h0
    exact (headKth_le_top D).trans ((not_lt.1 h).trans (roundedUp_nonneg _ _))

theorem bound_le_top : roundedUp (headKth D) (top D / 512) ≤ top D := by
  have h := roundedUp_le_of_le (headKth D) (top D) 9 (top_nonneg h0) (headKth_le_top D)
  norm_num at h
  exact h

theorem kth_le_radius : kth D ≤ radiusSq D := by
  rw [radiusSq]
  by_cases h : 0 < roundedUp (headKth D) (top D / 512)
  · exact le_roundedUp _ _ (by positivity)
  · exact (kth_le_headKth D).trans ((headKth_le_bound h0).trans ((not_lt.1 h).trans (roundedUp_nonneg _ _)))

theorem radius_le : radiusSq D ≤ kth D + top D / 128 := by
  have hB := roundedUp_nonneg (headKth D) (top D / 512)
  have hk : 0 ≤ kth D := h0 _
  have h1 := roundedUp_le (kth D) (roundedUp (headKth D) (top D / 512) / 128) hk (by positivity)
  have h2 := bound_le_top h0
  rw [radiusSq]
  linarith

/-- Both bisections end at the grid's radius. -/
theorem bisections : ((halve (kth D))^[7] (0, ((halve (headKth D))^[9] (0, top D)).2)).2 = radiusSq D := by
  have e : top D / 2 ^ 9 = top D / 512 := by norm_num
  have e' (x : ℝ) : x / 2 ^ 7 = x / 128 := by norm_num
  rw [halve_iterate _ _ (top_nonneg h0) (headKth_le_top D), e,
    halve_iterate _ _ (roundedUp_nonneg _ _) ((kth_le_headKth D).trans (headKth_le_bound h0)), e', radiusSq]

/-- Where a gap follows the 256th squared distance, the bandwidth is the mean distance. -/
theorem band_of_gap (hg : D (order D 255) + top D / 128 ≤ D (order D 256)) :
    bandOf D (radiusSq D) = (∑ j : Fin 256, √(D (order D (Fin.castLE (by decide) j)))) / 256 + eps := by
  have hs := order_sorts D
  have h := grid_eq (K := 256) D hs (by decide) (√(radiusSq D))
    (fun j hj => Real.sqrt_le_sqrt ((hs.mono j 255 (by rw [Fin.le_def]; exact Nat.le_of_lt_succ hj)).trans (kth_le_radius h0)))
    (fun j hj => Real.sqrt_le_sqrt ((radius_le h0).trans (hg.trans (hs.mono 256 j (by rw [Fin.le_def]; exact hj)))))
  rw [bandOf, ← h]
  norm_num
end radius

theorem meanBand_pos (Q : Fin 3 → ℝ) (V : Fin 16384 → Fin 3 → ℝ) : 0 < meanBand Q V :=
  add_pos_of_nonneg_of_pos (div_nonneg (sum_nonneg fun _ _ => Real.sqrt_nonneg _) (by norm_num)) eps_pos

section row
variable {Q : Fin 3 → ℝ} {V M : Fin 16384 → Fin 3 → ℝ}

theorem near_injective : Function.Injective (near Q V) := fun _ _ h =>
  Fin.ext (congrArg Fin.val ((order_sorts (dist2 Q V)).bij.1 h) :)

/-- A point that is not among the nearest 256 weighs nothing. -/
theorem clip_beyond (h : ℝ) (hh : 0 < h) (hout : h ≤ √(dist2 Q V (order (dist2 Q V) 256))) (i : Fin 16384)
    (hi : i ∉ Set.range (near Q V)) : clip h (off Q V) i = 0 := by
  refine clip_eq_zero h hh (off Q V) i (hout.trans (Real.sqrt_le_sqrt ?_))
  obtain ⟨j, rfl⟩ := (order_sorts (dist2 Q V)).bij.2 i
  refine (order_sorts (dist2 Q V)).mono 256 j ?_
  by_contra hj
  exact hi ⟨⟨j.val, not_le.1 hj⟩, rfl⟩

/-- The kernel's row under a bandwidth that reaches none but the nearest 256. -/
theorem kernel_row {x0 : Vec Ideal S128x3 .f32} {x1 x2 : Vec Ideal S3x16384 .f32} {r : Fin 128}
    (T : Tile x0 x1 x2 r Q V M) (hb : 0 < bandOf (dist2 Q V) (radiusSq (dist2 Q V)))
    (hout : bandOf (dist2 Q V) (radiusSq (dist2 Q V)) ≤ √(dist2 Q V (order (dist2 Q V) 256))) :
    (data x0 x1 x2).f1 (ix2 r 0) = ((f1 (bandOf (dist2 Q V) (radiusSq (dist2 Q V))) (nearOff Q V) (nearUnit Q V M) : ℝ) : EReal) ∧
    ∀ c, (data x0 x1 x2).g1 c (ix2 r 0) =
      ((g1 (bandOf (dist2 Q V) (radiusSq (dist2 Q V))) (nearOff Q V) (nearUnit Q V M) c : ℝ) : EReal) := by
  have h := row_real T (headKth (dist2 Q V)) (kth (dist2 Q V)) (radiusSq (dist2 Q V)) (head_count _) (all_count _)
    (bisections (dist2_nonneg Q V)) (roundedUp_nonneg _ _) hb
  have hx := clip_beyond _ hb hout
  refine ⟨h.1.trans (congrArg Real.toEReal ?_), fun c => (h.2 c).trans (congrArg Real.toEReal ?_)⟩
  · exact f1_restrict (near Q V) near_injective _ _ _ hx
  · exact g1_restrict (near Q V) near_injective _ _ _ hx c

end row
end Rimls
-- ==== Proof.KernelArray.lean ====
/- From the blocks of queries to the arrays: what the kernel's two result arrays hold at a query, in terms of the fit of
   that query's row, and the rows of the blocks as real numbers. -/
module
public import proofs.«01_k».proof.Proof.KernelFit
public import proofs.«01_k».proof.Proof.Gen.KernelIdeal.Frame
public import proofs.«01_k».proof.Proof.Gen.KernelIdeal.Points
public import Idealize.ShloMosaic.Lib.Pipeline.ValueKit
@[expose] public section
set_option maxRecDepth 16384
noncomputable section
namespace Cert.KernelIdeal.Array
open Cert.KernelIdeal Cert.KernelIdeal.Gen Cert.KernelIdeal.Form
open Idealize.ShloMosaic Idealize.ShloMosaic.TcCoe Idealize.SL.Sem
open Idealize.ShloMosaic.Pipeline (Dat)

variable (m : (ℓ : Loc nD τ sig) → Buf (Elt Ideal) ℓ)

theorem places : ∀ t : Fin cfg0.N, win0_0.index t = ![t.val, 0] ∧ win0_1.index t = ![0, 0] ∧ win0_2.index t = ![0, 0]
    ∧ win0_3.index t = ![t.val, 0] ∧ win0_4.index t = ![t.val, 0] ∧ t.val < 32 :=
  (by decide +kernel : ∀ t : Fin grid0.N, _)

/-- The query at row `r` of block `t`. -/
def query (t : Fin cfg0.N) (r : Fin 128) : Fin 4096 := ⟨128 * t.val + r.val, by have := (places t).2.2.2.2.2; omega⟩

/-- The queries, the points and their normals. -/
def queries (c : Dev nD) : FVec Ideal S4096x3 .f32 := m ((c : Thread nD τ).loc main_arg0)
def points (c : Dev nD) : FVec Ideal S16384x3 .f32 := m ((c : Thread nD τ).loc main_arg1)
def normals (c : Dev nD) : FVec Ideal S16384x3 .f32 := m ((c : Thread nD τ).loc main_arg2)

/-- The fit of the queries of block `t`. -/
def fit (c : Dev nD) (t : Fin cfg0.N) : Data Ideal := data (iblk m c 0 t) (iblk m c 1 t) (iblk m c 2 t)

theorem fit_tile (c : Dev nD) (t : Fin cfg0.N) (r : Fin 128) (Q : Fin 3 → ℝ) (P M : Fin 16384 → Fin 3 → ℝ)
    (hq : ∀ a, (m ((c : Thread nD τ).loc main_arg0) : FVec Ideal S4096x3 .f32) (ix2 (query t r) a) = (Q a : EReal))
    (hv : ∀ j a, (m ((c : Thread nD τ).loc main_arg1) : FVec Ideal S16384x3 .f32) (ix2 j a) = (P j a : EReal))
    (hm : ∀ j a, (m ((c : Thread nD τ).loc main_arg2) : FVec Ideal S16384x3 .f32) (ix2 j a) = (M j a : EReal)) :
    Tile (iblk m c 0 t) (iblk m c 1 t) (iblk m c 2 t) r Q P M where
  q a := by
    refine Eq.trans ?_ (hq a)
    unfold query
    blk_simp [iblk, places t]
    rw [V_main_arg0]
    refine congrArg (m ((c : Thread nD τ).loc main_arg0)) ?_
    blk_ext [places t]
  v a j := by
    refine Eq.trans ?_ (hv j a)
    have e : ((cfg0.win 1).blk t).view.emb (ix2 a j) = (ix2 a j : S3x16384.Idx) := by blk_ext [places t]
    blk_simp [iblk]
    entry_read
    refine (congrArg (transpose S3x16384 [1, 0] (m ((c : Thread nD τ).loc main_arg1)) transposes_S16384x3_S3x16384_1_0) e).trans ?_
    pointwise
  m a j := by
    refine Eq.trans ?_ (hm j a)
    have e : ((cfg0.win 2).blk t).view.emb (ix2 a j) = (ix2 a j : S3x16384.Idx) := by blk_ext [places t]
    blk_simp [iblk]
    entry_read
    refine (congrArg (transpose S3x16384 [1, 0] (m ((c : Thread nD τ).loc main_arg2)) transposes_S16384x3_S3x16384_1_0) e).trans ?_
    pointwise

theorem value_array (c : Dev nD) (G : Fin 4096 → EReal) (h : ∀ t r, (fit m c t).f1 (ix2 r 0) = G (query t r)) :
    (dats m 0 c).arrAt 3 (cfgs 0).N = fun i : S4096x1.Idx => G (i 0) := by
  refine (dats m 0 c).arrAt_eq_of_covers 3 _ (by decide +kernel) fun t _ y => ?_
  blk_simp
  rw [after0_3]
  unfold outsAt0
  dsimp only
  rw [out3_form]
  refine Eq.trans (congrArg (fit m c t).f1 (?_ : y = ix2 (y 0) 0)) ((h t (y 0)).trans (congrArg G ?_))
  · blk_ext [places t]
  · refine Fin.ext ?_
    unfold query
    blk_simp [places t]
    dsimp only
    omega

theorem grad_array (c : Dev nD) (G : Fin 4096 → Fin 3 → EReal) (h : ∀ t r a, (fit m c t).g1 a (ix2 r 0) = G (query t r) a) :
    (dats m 0 c).arrAt 4 (cfgs 0).N = fun i : S4096x3.Idx => G (i 0) (i 1) := by
  refine (dats m 0 c).arrAt_eq_of_covers 4 _ (by decide +kernel) fun t _ y => ?_
  blk_simp
  rw [after0_4]
  unfold outsAt0
  dsimp only
  rw [out4_form]
  canon_tiles x h
  all_goals
    refine Eq.trans (congrArg ((fit m c t).g1 _) (?_ : x = ix2 (x 0) 0)) ((h t (x 0) _).trans (congrArg₂ G ?_ ?_))
    · blk_ext
    · refine Fin.ext ?_
      unfold query
      blk_simp [places t]
      dsimp only
      omega
    · refine Fin.ext ?_
      blk_simp [places t]
      first | omega | (simp only [Fin.isValue, Fin.val_two, Fin.val_one, Fin.val_zero]; omega)

/-- The value array, with its unit axis dropped, equals a vector that agrees with each fitted row. -/
theorem value_of_rows (c : Dev nD) (v : FVec Ideal S4096 .f32) (h : ∀ t r, (fit m c t).f1 (ix2 r 0) = v (ix1 (query t r))) :
    shapeCast S4096 ((dats m 0 c).arrAt 3 (cfgs 0).N : FVec Ideal S4096x1 .f32) shapeCasts_S4096x1_S4096 = v := by
  rw [value_array m c (fun q => v (ix1 q)) h]
  funext i
  pointwise

/-- The gradient array equals one that agrees with each fitted row. -/
theorem grad_of_rows (c : Dev nD) (v : FVec Ideal S4096x3 .f32) (h : ∀ t r a, (fit m c t).g1 a (ix2 r 0) = v (ix2 (query t r) a)) :
    (dats m 0 c).arrAt 4 (cfgs 0).N = v := by
  rw [grad_array m c (fun q a => v (ix2 q a)) h]
  funext i
  exact congrArg v (by blk_ext)

/-- The first result is the value array without its unit axis. -/
theorem value_result (c : Dev nD) : Pipeline.afterTail₀ cfgs (dats m) 0 (V0 m) [hostOps1] c main_v3 =
    shapeCast S4096 ((dats m 0 c).arrAt 3 (cfgs 0).N : FVec Ideal S4096x1 .f32) shapeCasts_S4096x1_S4096 := by
  unfold Pipeline.afterTail₀
  simp only [List.flatten_cons, List.flatten_nil, List.append_nil]
  after_results_simp
  have h := Pipeline.withArrays_arr (cfgs 0).spec (by decide) c (V0 m c) (fun w => (dats m 0 c).arrAt w (cfgs 0).N) 3
  exact congrArg (fun x : FVec Ideal S4096x1 .f32 => shapeCast S4096 x shapeCasts_S4096x1_S4096) h

/-- A function of equal arguments. -/
theorem arguments_agree {A B C D : Type} {a a' : A} {b b' : B} {d d' : C} (h : a' = a ∧ b' = b ∧ d' = d) (f : A → B → C → D) :
    f a' b' d' = f a b d := by
  rw [h.1, h.2.1, h.2.2]

end Cert.KernelIdeal.Array
-- ==== Proof.ReferenceBand.lean ====
/- The bandwidth of the reference: the mean distance to the nearest 256 points. -/
module
public import proofs.«01_k».proof.Proof.ReferenceRow
@[expose] public section
set_option maxRecDepth 16384
noncomputable section
namespace Cert.ReferenceIdeal.Row
open Cert.ReferenceIdeal Cert.ReferenceIdeal.Gen Cert.ReferenceIdeal.Read
open Idealize.ShloMosaic Rimls Finset

variable {x0 : FVec Ideal ⟨2, ![4096, 3]⟩ .f32} {x1 x2 : FVec Ideal ⟨2, ![16384, 3]⟩ .f32} {r : Fin 4096}
  {Q : Fin 3 → ℝ} {V M : Fin 16384 → Fin 3 → ℝ} (T : Query x0 x1 x2 r Q V M)
include T

theorem band_real : val_main_v30 (F := Ideal) x0 x1 (ix1 r) = ((meanBand Q V : ℝ) : EReal) := by
  have hv : ∀ j : Fin 256, Ideal.sqrt (max (-val_main_values (F := Ideal) x0 x1 (ix2 r j)) 0)
      = ((√(dist2 Q V (near Q V j)) : ℝ) : EReal) := by
    intro j
    have h0 := dist2_nonneg Q V (near Q V j)
    rw [values_real T j, ← EReal.coe_neg, neg_neg, ← EReal.coe_zero, max_real, max_eq_left h0, sqrt_real _ h0]
  pointwise [val_main_v30, val_main_v28, val_main_v26, val_main_v25, val_main_v24, val_main_v22, val_main_v23, val_main_v27,
    val_main_v29, val_main_cst_4, val_main_cst_5, val_main_cst_6, val_main_cst_7]
  simp only [hv, word_256, word_eps, sum_real, div_real _ _ (by norm_num : (256 : ℝ) ≠ 0), ← EReal.coe_add, zero_add]
  rfl

end Cert.ReferenceIdeal.Row
-- ==== Proof.Closest.lean ====
/- What both preconditions say alike: finite arguments, and the 257 points closest to a query. -/
module
public import proofs.«01_k».proof.Proof.ReferenceRow
public import proofs.«01_k».proof.Pre_gap
@[expose] public section
set_option maxRecDepth 16384
noncomputable section
namespace Cert.Closest
open Cert.Pre_gap Cert.Pre_gap.Facts
open Idealize.ShloMosaic Rimls Finset

/-- An array whose entries are all below infinity in magnitude holds reals. -/
theorem finite {n : Nat} (x : FVec Ideal ⟨2, ![n, 3]⟩ .f32) (hb : S_.BroadcastsInDim ⟨2, ![n, 3]⟩ (![] : Fin 0 → Fin 2))
    (h : cmpf .olt (Host.absf x) (broadcastInDim ⟨2, ![n, 3]⟩ ![] hb (constant S_ .f32 0x7F800000#32)) = fun _ => 1#1)
    (i : Fin n) (a : Fin 3) : x (ix2 i a) = ((x (ix2 i a)).toReal : EReal) := by
  refine real_of_bit _ (Eq.trans ?_ (congrFun h (ix2 i a)))
  pointwise
  rfl

variable [Facts] (x0 : FVec Ideal S4096x3 .f32) (x1 : FVec Ideal S16384x3 .f32)

/-- Clipped squared distances. -/
def far : FVec Ideal S4096x16384 .f32 := Cert.ReferenceIdeal.Read.val_main_v20 (F := Ideal) x0 x1
/-- The 257 smallest of them, in order. -/
def closest : FVec Ideal S4096x257 .f32 :=
  Host.negf (Host.topK S4096x257 1 (FloatOps.cmpfTotal .gt) (Host.negf (far x0 x1)) sliceFits_S4096x16384_S4096x257).1
/-- The 257th distance. -/
def next : FVec Ideal S4096 .f32 :=
  shapeCast S4096 (extractStridedSlice S4096x1 ![0, 256] (Host.sqrt (closest x0 x1)) slices_S4096x257_S4096x1_0_256) shapeCasts_S4096x1_S4096

section
variable {x0 x1} {x2 : FVec Ideal S16384x3 .f32} {r : Fin 4096} {Q : Fin 3 → ℝ} {V M : Fin 16384 → Fin 3 → ℝ} (T : Query x0 x1 x2 r Q V M)
include T

theorem far_real (i : Fin 16384) : far x0 x1 (ix2 r i) = ((dist2 Q V i : ℝ) : EReal) := Cert.ReferenceIdeal.Row.d2_real T i

theorem closest_real (j : Fin 257) :
    closest x0 x1 (ix2 r j) = ((dist2 Q V (order (dist2 Q V) (Fin.castLE (by decide) j)) : ℝ) : EReal) := by
  have hn : ∀ i : Fin 16384, Host.negf (far x0 x1) (ix2 r i) = ((-dist2 Q V i : ℝ) : EReal) := by
    intro i
    have h := far_real T i
    pointwise [h]
    rfl
  have h := topK_values _ r (dist2 Q V) hn sliceFits_S4096x16384_S4096x257 (by decide) j
  pointwise [closest, h]
  rw [← EReal.coe_neg, neg_neg]

theorem next_real : next x0 x1 (ix1 r) = ((√(dist2 Q V (order (dist2 Q V) 256)) : ℝ) : EReal) := by
  have h := closest_real T
  pointwise [next, h]
  simp only [fun i => sqrt_real _ (dist2_nonneg Q V i)]
  rfl

/-- A bandwidth that is compared with the 257th distance, in reals. -/
theorem at_most_next {b : FVec Ideal S4096 .f32} {h : ℝ} (hb : b (ix1 r) = (h : EReal))
    (hc : cmpf .oge (next x0 x1) b = fun _ => 1#1) : h ≤ √(dist2 Q V (order (dist2 Q V) 256)) := by
  refine le_of_bit _ _ (Eq.trans ?_ (congrFun hc (ix1 r)))
  have h2 := next_real T
  pointwise [hb, h2]
end
end Cert.Closest
-- ==== Proof.GapReal.lean ====
/- What the precondition `gap` says of the arguments in reals. -/
module
public import proofs.«01_k».proof.Proof.Closest
public import proofs.«01_k».proof.Proof.KernelBand
public import proofs.«01_k».proof.Pre_gap
@[expose] public section
set_option maxRecDepth 16384
noncomputable section
namespace Cert.Pre_gap.Real
open Cert.Pre_gap Cert.Pre_gap.Facts
open Idealize.ShloMosaic Rimls Finset
open Cert.Closest (far closest next far_real closest_real at_most_next)

variable [Facts] (x0 : FVec Ideal S4096x3 .f32) (x1 x2 : FVec Ideal S16384x3 .f32)

/-- The mean distance of 256 of them, and the small constant. -/
def average : FVec Ideal S4096 .f32 :=
  addf (Host.divf (Host.reduceAdd (extractStridedSlice S4096x256 ![0, 0] (Host.sqrt (closest x0 x1)) slices_S4096x257_S4096x256_0_0)
      (constant S_ .f32 0x00000000#32) reducesTo_S4096x256_S4096_d1 h_S_)
    (broadcastInDim S4096 ![] bcast_S_S4096 (constant S_ .f32 0x43800000#32)))
    (broadcastInDim S4096 ![] bcast_S_S4096 (constant S_ .f32 0x322BCC77#32))
theorem outside_form : (fn (F := Ideal) x0 x1 x2).2.2.2.1 = cmpf .oge (next x0 x1) (average x0 x1) := rfl

section
variable {x0 x1 x2}
theorem finite0 (h : (fn (F := Ideal) x0 x1 x2).1 = fun _ => 1#1) (r : Fin 4096) (a : Fin 3) :
    x0 (ix2 r a) = ((x0 (ix2 r a)).toReal : EReal) := Closest.finite x0 bcast_S_S4096x3 h r a
theorem finite1 (h : (fn (F := Ideal) x0 x1 x2).2.1 = fun _ => 1#1) (j : Fin 16384) (a : Fin 3) :
    x1 (ix2 j a) = ((x1 (ix2 j a)).toReal : EReal) := Closest.finite x1 bcast_S_S16384x3 h j a
theorem finite2 (h : (fn (F := Ideal) x0 x1 x2).2.2.1 = fun _ => 1#1) (j : Fin 16384) (a : Fin 3) :
    x2 (ix2 j a) = ((x2 (ix2 j a)).toReal : EReal) := Closest.finite x2 bcast_S_S16384x3 h j a

variable {r : Fin 4096} {Q : Fin 3 → ℝ} {V M : Fin 16384 → Fin 3 → ℝ} (T : Query x0 x1 x2 r Q V M)
include T

theorem average_real : average x0 x1 (ix1 r) = ((meanBand Q V : ℝ) : EReal) := by
  have h := closest_real T
  pointwise [average, h]
  simp only [fun i => sqrt_real _ (dist2_nonneg Q V i), word_256, word_eps, sum_real, div_real _ _ (by norm_num : (256 : ℝ) ≠ 0), ← EReal.coe_add]
  rfl

/-- The mean distance is at most the 257th. -/
theorem outside_real (h : (fn (F := Ideal) x0 x1 x2).2.2.2.1 = fun _ => 1#1) :
    meanBand Q V ≤ √(dist2 Q V (order (dist2 Q V) 256)) := by
  rw [outside_form] at h
  exact at_most_next T (average_real T) h

omit T in
/-- The 256th and 257th squared distances, and the fine step's bound, as the predicate computes them. -/
theorem gap_form : (fn (F := Ideal) x0 x1 x2).2.2.2.2 = cmpf .oge
    (shapeCast S4096 (extractStridedSlice S4096x1 ![0, 256] (closest x0 x1) slices_S4096x257_S4096x1_0_256) shapeCasts_S4096x1_S4096)
    (addf (shapeCast S4096 (extractStridedSlice S4096x1 ![0, 255] (closest x0 x1) slices_S4096x257_S4096x1_0_255) shapeCasts_S4096x1_S4096)
      (Host.divf (Host.reduce FloatOps.maximumf (extractStridedSlice S4096x2048 ![0, 0] (far x0 x1) slices_S4096x16384_S4096x2048_0_0)
        (constant S_ .f32 0xFF800000#32) reducesTo_S4096x2048_S4096_d1 h_S_) (broadcastInDim S4096 ![] bcast_S_S4096 (constant S_ .f32 0x43000000#32)))) := rfl

/-- The 257th squared distance is past the 256th by more than the fine step. -/
theorem gap_real (h : (fn (F := Ideal) x0 x1 x2).2.2.2.2 = fun _ => 1#1) :
    dist2 Q V (order (dist2 Q V) 255) + Cert.KernelIdeal.Form.top (dist2 Q V) / 128 ≤ dist2 Q V (order (dist2 Q V) 256) := by
  have e := congrFun h (ix1 r)
  rw [gap_form] at e
  refine le_of_bit _ _ (Eq.trans ?_ e)
  have h1 := far_real T
  have h2 := closest_real T
  pointwise [h1, h2]
  simp only [word_bot, word_128]
  rw [fold_max_real Cert.KernelIdeal.Form.univ_head, div_real _ _ (by norm_num), ← EReal.coe_add]
  rfl
end
end Cert.Pre_gap.Real
-- ==== Proof.ClaimGap.lean ====
module
public import proofs.«01_k».proof.Defs
public import proofs.«01_k».proof.Proof.Combine
public import proofs.«01_k».proof.Proof.KernelArray
public import proofs.«01_k».proof.Proof.ReferenceRow
public import proofs.«01_k».proof.Proof.ReferenceBand
public import proofs.«01_k».proof.Proof.GapReal
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_gap
public import Idealize.ShloMosaic.Lib.Claim
@[expose] public section
set_option maxRecDepth 16384
noncomputable section
namespace Cert.Proof.Gap
open Idealize.ShloMosaic Idealize.ShloMosaic.TcCoe Idealize.SL.Sem Rimls
open Cert.KernelIdeal Cert.KernelIdeal.Gen Cert.KernelIdeal.Array
open Cert.KernelIdeal.Form (bandOf)
open Cert.GridReferenceIdeal.Row (radiusSq)
open Cert.ReferenceIdeal.Read (val_main_v136 val_main_v153)

attribute [local instance] Cert.Pre_gap.Gen.facts Cert.ReferenceIdeal.Gen.facts

variable (m : (ℓ : Loc nD τ sig) → Buf (Elt Ideal) ℓ)

/-- A fitted row of the kernel is the reference's. -/
theorem row (c : Dev nD) (hp : Pre_KernelIdeal_gap m) (t : Fin cfg0.N) (r : Fin 128) :
    (fit m c t).f1 (ix2 r 0) = val_main_v136 (F := Ideal) (queries m c) (points m c) (normals m c) (ix1 (query t r)) ∧
    ∀ a, (fit m c t).g1 a (ix2 r 0) = val_main_v153 (F := Ideal) (queries m c) (points m c) (normals m c) (ix2 (query t r) a) := by
  obtain ⟨h0, h1, h2, h3, h4⟩ := hp c
  have e0 := Cert.Pre_gap.Real.finite0 h0 (query t r)
  have e1 := Cert.Pre_gap.Real.finite1 h1
  have e2 := Cert.Pre_gap.Real.finite2 h2
  have T : Query (queries m c) (points m c) (normals m c) (query t r) _ _ _ := ⟨e0, e1, e2⟩
  have K := fit_tile m c t r _ _ _ e0 e1 e2
  have ho := Cert.Pre_gap.Real.outside_real T h3
  have hg := Cert.Pre_gap.Real.gap_real T h4
  have hb := band_of_gap (dist2_nonneg _ _) hg
  have hpos := meanBand_pos (fun a => ((queries m c) (ix2 (query t r) a)).toReal) fun j a => ((points m c) (ix2 j a)).toReal
  have hk := kernel_row K (by rw [hb]; exact hpos) (by rw [hb]; exact ho)
  have hr := Cert.ReferenceIdeal.Row.band_real T
  rw [hb] at hk
  exact ⟨hk.1.trans (Cert.ReferenceIdeal.Row.value_real T hpos hr).symm,
    fun a => (hk.2 a).trans (Cert.ReferenceIdeal.Row.grad_real T hpos hr a).symm⟩

set_option maxHeartbeats 1600000 in
theorem algebraic : Cert.algebraic_KernelIdeal_ReferenceIdeal_pre_gap := by
  pair_intro
  · run_from Cert.KernelIdeal.Gen.unchanged m g & Cert.KernelIdeal.Gen.run_main m g
  · run_from Cert.ReferenceIdeal.Value.run m' g'
    · refine (Cert.ReferenceIdeal.Read.val_main_v136_eq (StableHlo.launchContents m' c)).trans ?_
      rw [value_result, value_of_rows m c _ fun t r => (row m c hpre t r).1]
      exact arguments_agree (hagree c) _
    · refine (Cert.ReferenceIdeal.Read.val_main_v153_eq (StableHlo.launchContents m' c)).trans ?_
      rw [grad_of_rows m c _ fun t r a => (row m c hpre t r).2 a]
      exact arguments_agree (hagree c) _

end Cert.Proof.Gap
-- ==== Proof.OutsideReal.lean ====
/- What the precondition `outside` says of the arguments in reals. -/
module
public import proofs.«01_k».proof.Proof.Closest
public import proofs.«01_k».proof.Proof.GridBand
public import proofs.«01_k».proof.Pre_outside
@[expose] public section
set_option maxRecDepth 16384
noncomputable section
namespace Cert.Pre_outside.Real
open Cert.Pre_outside Cert.Pre_outside.Facts
open Idealize.ShloMosaic Rimls Finset
open Cert.KernelIdeal.Form (bandOf)
open Cert.GridReferenceIdeal.Row (radiusSq)

variable [Facts] [Cert.Pre_gap.Facts] {x0 : FVec Ideal S4096x3 .f32} {x1 x2 : FVec Ideal S16384x3 .f32}

theorem finite0 (h : (fn (F := Ideal) x0 x1 x2).1 = fun _ => 1#1) (r : Fin 4096) (a : Fin 3) :
    x0 (ix2 r a) = ((x0 (ix2 r a)).toReal : EReal) := Closest.finite x0 bcast_S_S4096x3 h r a
theorem finite1 (h : (fn (F := Ideal) x0 x1 x2).2.1 = fun _ => 1#1) (j : Fin 16384) (a : Fin 3) :
    x1 (ix2 j a) = ((x1 (ix2 j a)).toReal : EReal) := Closest.finite x1 bcast_S_S16384x3 h j a
theorem finite2 (h : (fn (F := Ideal) x0 x1 x2).2.2.1 = fun _ => 1#1) (j : Fin 16384) (a : Fin 3) :
    x2 (ix2 j a) = ((x2 (ix2 j a)).toReal : EReal) := Closest.finite x2 bcast_S_S16384x3 h j a

/-- The bandwidth, as the predicate computes it. -/
def band (x0 : FVec Ideal S4096x3 .f32) (x1 : FVec Ideal S16384x3 .f32) : FVec Ideal S4096 .f32 :=
  Cert.GridReferenceIdeal.Read.val_main_v69 (F := Ideal) x0 x1
theorem positive_form : (fn (F := Ideal) x0 x1 x2).2.2.2.1 = cmpf .ogt (band x0 x1)
    (broadcastInDim S4096 ![] bcast_S_S4096 (constant S_ .f32 0x00000000#32)) := rfl
theorem outside_form : (fn (F := Ideal) x0 x1 x2).2.2.2.2 = cmpf .oge (Closest.next x0 x1) (band x0 x1) := rfl

variable {r : Fin 4096} {Q : Fin 3 → ℝ} {V M : Fin 16384 → Fin 3 → ℝ} (T : Query x0 x1 x2 r Q V M)
include T

/-- The bandwidth is positive. -/
theorem positive_real (h : (fn (F := Ideal) x0 x1 x2).2.2.2.1 = fun _ => 1#1) :
    0 < bandOf (dist2 Q V) (radiusSq (dist2 Q V)) := by
  have e := congrFun h (ix1 r)
  rw [positive_form] at e
  refine pos_of_bit _ (Eq.trans ?_ e)
  have h1 : band x0 x1 (ix1 r) = _ := Cert.GridReferenceIdeal.Row.band_real T
  pointwise [h1]

/-- It is at most the 257th distance. -/
theorem outside_real (h : (fn (F := Ideal) x0 x1 x2).2.2.2.2 = fun _ => 1#1) :
    bandOf (dist2 Q V) (radiusSq (dist2 Q V)) ≤ √(dist2 Q V (order (dist2 Q V) 256)) := by
  rw [outside_form] at h
  exact Closest.at_most_next T (Cert.GridReferenceIdeal.Row.band_real T) h
end Cert.Pre_outside.Real
-- ==== Proof.ClaimOutside.lean ====
/- The kernel equals the reference with the gridded radius where its bandwidth is positive and reaches only the nearest 256. -/
module
public import proofs.«01_k».proof.Defs
public import proofs.«01_k».proof.Proof.Combine
public import proofs.«01_k».proof.Proof.KernelArray
public import proofs.«01_k».proof.Proof.GridReferenceRow
public import proofs.«01_k».proof.Proof.GridBand
public import proofs.«01_k».proof.Proof.OutsideReal
public import proofs.«01_k».proof.Proof.Gen.GridReferenceIdeal.Run
public import proofs.«01_k».proof.Proof.Gen.GridReferenceIdeal.Read
public import proofs.«01_k».proof.Proof.Gen.GridReferenceIdeal
public import proofs.«01_k».proof.Proof.Gen.Pre_outside
public import proofs.«01_k».proof.Proof.Gen.Pre_gap
public import Idealize.ShloMosaic.Lib.Claim
@[expose] public section
set_option maxRecDepth 16384
noncomputable section
namespace Cert.Proof.Outside
open Idealize.ShloMosaic Idealize.ShloMosaic.TcCoe Idealize.SL.Sem Rimls
open Cert.KernelIdeal Cert.KernelIdeal.Gen Cert.KernelIdeal.Array
open Cert.KernelIdeal.Form (bandOf)
open Cert.GridReferenceIdeal.Row (radiusSq)
open Cert.GridReferenceIdeal.Read (val_main_v175 val_main_v192)

attribute [local instance] Cert.Pre_outside.Gen.facts Cert.Pre_gap.Gen.facts Cert.GridReferenceIdeal.Gen.facts

variable (m : (ℓ : Loc nD τ sig) → Buf (Elt Ideal) ℓ)

/-- A fitted row of the kernel is the reference's. -/
theorem row (c : Dev nD) (hp : Pre_KernelIdeal_outside m) (t : Fin cfg0.N) (r : Fin 128) :
    (fit m c t).f1 (ix2 r 0) = val_main_v175 (F := Ideal) (queries m c) (points m c) (normals m c) (ix1 (query t r)) ∧
    ∀ a, (fit m c t).g1 a (ix2 r 0) = val_main_v192 (F := Ideal) (queries m c) (points m c) (normals m c) (ix2 (query t r) a) := by
  obtain ⟨h0, h1, h2, h3, h4⟩ := hp c
  have e0 := Cert.Pre_outside.Real.finite0 h0 (query t r)
  have e1 := Cert.Pre_outside.Real.finite1 h1
  have e2 := Cert.Pre_outside.Real.finite2 h2
  have T : Query (queries m c) (points m c) (normals m c) (query t r) _ _ _ := ⟨e0, e1, e2⟩
  have K := fit_tile m c t r _ _ _ e0 e1 e2
  have hpos := Cert.Pre_outside.Real.positive_real T h3
  have ho := Cert.Pre_outside.Real.outside_real T h4
  have hk := kernel_row K hpos ho
  have hr := Cert.GridReferenceIdeal.Row.band_real T
  exact ⟨hk.1.trans (Cert.GridReferenceIdeal.Row.value_real T hpos hr).symm,
    fun a => (hk.2 a).trans (Cert.GridReferenceIdeal.Row.grad_real T hpos hr a).symm⟩

set_option maxHeartbeats 1600000 in
theorem algebraic : Cert.algebraic_KernelIdeal_GridReferenceIdeal_pre_outside := by
  pair_intro
  · run_from Cert.KernelIdeal.Gen.unchanged m g & Cert.KernelIdeal.Gen.run_main m g
  · run_from Cert.GridReferenceIdeal.Value.run m' g'
    · refine (Cert.GridReferenceIdeal.Read.val_main_v175_eq (StableHlo.launchContents m' c)).trans ?_
      rw [value_result, value_of_rows m c _ fun t r => (row m c hpre t r).1]
      exact arguments_agree (hagree c) _
    · refine (Cert.GridReferenceIdeal.Read.val_main_v192_eq (StableHlo.launchContents m' c)).trans ?_
      rw [grad_of_rows m c _ fun t r a => (row m c hpre t r).2 a]
      exact arguments_agree (hagree c) _

end Cert.Proof.Outside
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.GridReferenceIdeal
public import proofs.«01_k».proof.Proof.Gen.GridReferenceIdeal.Run
public import proofs.«01_k».proof.Proof.Gen.GridReferenceIdeal.Read
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_outside
public import proofs.«01_k».proof.Proof.Gen.Pre_gap
public import proofs.«01_k».proof.Proof.ClaimGap
public import proofs.«01_k».proof.Proof.ClaimOutside
public import Idealize.ShloMosaic.Lib.Claim
public import Idealize.ShloMosaic.Adequacy
public import Idealize.ShloMosaic.Init

@[expose] public section

noncomputable section

namespace Cert.Proof

open Idealize.ShloMosaic Idealize.SL.Sem

theorem grid_frame : Cert.quiescent_GridReferenceIdeal (hGridReferenceIdeal := Cert.GridReferenceIdeal.Gen.facts) :=
  fun m g _ => (θ_run Cert.GridReferenceIdeal.defs _ _).mono
    (fun r h => ⟨fun c => (h c).2.2, sem_eq_zero_of_no_sems (by decide) r.2⟩) (Cert.GridReferenceIdeal.Value.run m g)

theorem reference_frame : Cert.quiescent_ReferenceIdeal (hReferenceIdeal := Cert.ReferenceIdeal.Gen.facts) :=
  fun m g _ => (θ_run Cert.ReferenceIdeal.defs _ _).mono
    (fun r h => ⟨fun c => (h c).2.2, sem_eq_zero_of_no_sems (by decide) r.2⟩) (Cert.ReferenceIdeal.Value.run m g)

theorem named : Cert.preserves_Kernel_KernelIdeal :=
  IdealRules.named_const.statement Cert.KernelIdeal.κ "inv_sigma_n_squared" .f32 0x3FC80000#32 ((8388608 / 5368709 : ℝ) : EReal) rfl

theorem claim : Cert.Claim := ⟨Cert.Kernel.Gen.facts, Cert.KernelIdeal.Gen.facts, Cert.GridReferenceIdeal.Gen.facts,
  Cert.ReferenceIdeal.Gen.facts, Cert.Pre_outside.Gen.facts, Cert.Pre_gap.Gen.facts,
  fun m ρ _ => Cert.Kernel.Gen.frame m ρ, fun m ρ _ => Cert.KernelIdeal.Gen.frame m ρ,
  fun m ρ _ => Cert.KernelIdeal.Gen.frame m ρ, fun m ρ _ => Cert.KernelIdeal.Gen.frame m ρ,
  grid_frame, fun m ρ _ => grid_frame m ρ trivial, reference_frame, fun m ρ _ => reference_frame m ρ trivial,
  named, Outside.algebraic, Gap.algebraic⟩

end Cert.Proof

end
